-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S16x256x256 : Shape := ⟨3, ![16, 256, 256]⟩
abbrev S256x4096 : Shape := ⟨2, ![256, 4096]⟩
abbrev S4x256x2048 : Shape := ⟨3, ![4, 256, 2048]⟩
abbrev S16 : Shape := ⟨1, ![16]⟩
abbrev S4 : Shape := ⟨1, ![4]⟩
abbrev S_ : Shape := ⟨0, ![]⟩
abbrev S1x256x256 : Shape := ⟨3, ![1, 256, 256]⟩
abbrev S256x256 : Shape := ⟨2, ![256, 256]⟩
abbrev S1x256x2048 : Shape := ⟨3, ![1, 256, 2048]⟩

abbrev nBuf : Space → Nat
  | .hbm => 5
  | .vmem => 7
  | .smem => 2
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .fp8e4m3⟩
  | .local _ .vmem, ⟨3, _⟩ => ⟨S16x256x256, .fp8e4m3⟩
  | .local _ .vmem, ⟨4, _⟩ => ⟨S256x4096, .fp8e4m3⟩
  | .local _ .vmem, ⟨5, _⟩ => ⟨S4x256x2048, .f32⟩
  | .local _ .vmem, ⟨6, _⟩ => ⟨S4096x2048, .fp8e4m3⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.addi v2 c1_i32_64
  let c16_i32_65 : BitVec 32 := 16#32
  let v71 : BitVec 32 := Scalar.remsi v70 c16_i32_65
  let c256_i32 : BitVec 32 := 256#32
  let v72 : BitVec 32 := Scalar.muli v71 c256_i32
  let c0_i32_73 : BitVec 32 := 0#32
  ![v72.toNat, 0]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.addi v2 c1_i32_64
  let c16_i32_65 : BitVec 32 := 16#32
  let v71 : BitVec 32 := Scalar.remsi v70 c16_i32_65
  let c1_i32_69 : BitVec 32 := 1#32
  let v73 : BitVec 32 := Scalar.muli v71 c1_i32_69
  let v74 : BitVec 32 := Scalar.addi c0_i32_70 v73
  v74.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_74 : BitVec 32 := 2#32
  let v82 : BitVec 32 := Scalar.addi v2 c2_i32_74
  let c16_i32_75 : BitVec 32 := 16#32
  let v83 : BitVec 32 := Scalar.remsi v82 c16_i32_75
  let c1_i32_80 : BitVec 32 := 1#32
  let v85 : BitVec 32 := Scalar.muli v83 c1_i32_80
  let v86 : BitVec 32 := Scalar.addi c0_i32_81 v85
  v86.toNat
def k0_dev18 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_85 : BitVec 32 := 3#32
  let v94 : BitVec 32 := Scalar.addi v2 c3_i32_85
  let c16_i32_86 : BitVec 32 := 16#32
  let v95 : BitVec 32 := Scalar.remsi v94 c16_i32_86
  let c1_i32_91 : BitVec 32 := 1#32
  let v97 : BitVec 32 := Scalar.muli v95 c1_i32_91
  let v98 : BitVec 32 := Scalar.addi c0_i32_92 v97
  v98.toNat
def k0_dev19 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_96 : BitVec 32 := 4#32
  let v106 : BitVec 32 := Scalar.addi v2 c4_i32_96
  let c16_i32_97 : BitVec 32 := 16#32
  let v107 : BitVec 32 := Scalar.remsi v106 c16_i32_97
  let c1_i32_102 : BitVec 32 := 1#32
  let v109 : BitVec 32 := Scalar.muli v107 c1_i32_102
  let v110 : BitVec 32 := Scalar.addi c0_i32_103 v109
  v110.toNat
def k0_dev20 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_107 : BitVec 32 := 5#32
  let v118 : BitVec 32 := Scalar.addi v2 c5_i32_107
  let c16_i32_108 : BitVec 32 := 16#32
  let v119 : BitVec 32 := Scalar.remsi v118 c16_i32_108
  let c1_i32_113 : BitVec 32 := 1#32
  let v121 : BitVec 32 := Scalar.muli v119 c1_i32_113
  let v122 : BitVec 32 := Scalar.addi c0_i32_114 v121
  v122.toNat
def k0_dev21 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_118 : BitVec 32 := 6#32
  let v130 : BitVec 32 := Scalar.addi v2 c6_i32_118
  let c16_i32_119 : BitVec 32 := 16#32
  let v131 : BitVec 32 := Scalar.remsi v130 c16_i32_119
  let c1_i32_124 : BitVec 32 := 1#32
  let v133 : BitVec 32 := Scalar.muli v131 c1_i32_124
  let v134 : BitVec 32 := Scalar.addi c0_i32_125 v133
  v134.toNat
def k0_dev22 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_129 : BitVec 32 := 7#32
  let v142 : BitVec 32 := Scalar.addi v2 c7_i32_129
  let c16_i32_130 : BitVec 32 := 16#32
  let v143 : BitVec 32 := Scalar.remsi v142 c16_i32_130
  let c1_i32_135 : BitVec 32 := 1#32
  let v145 : BitVec 32 := Scalar.muli v143 c1_i32_135
  let v146 : BitVec 32 := Scalar.addi c0_i32_136 v145
  v146.toNat
def k0_dev23 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_140 : BitVec 32 := 8#32
  let v154 : BitVec 32 := Scalar.addi v2 c8_i32_140
  let c16_i32_141 : BitVec 32 := 16#32
  let v155 : BitVec 32 := Scalar.remsi v154 c16_i32_141
  let c1_i32_146 : BitVec 32 := 1#32
  let v157 : BitVec 32 := Scalar.muli v155 c1_i32_146
  let v158 : BitVec 32 := Scalar.addi c0_i32_147 v157
  v158.toNat
def k0_dev24 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_151 : BitVec 32 := 9#32
  let v166 : BitVec 32 := Scalar.addi v2 c9_i32_151
  let c16_i32_152 : BitVec 32 := 16#32
  let v167 : BitVec 32 := Scalar.remsi v166 c16_i32_152
  let c1_i32_157 : BitVec 32 := 1#32
  let v169 : BitVec 32 := Scalar.muli v167 c1_i32_157
  let v170 : BitVec 32 := Scalar.addi c0_i32_158 v169
  v170.toNat
def k0_dev25 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_162 : BitVec 32 := 10#32
  let v178 : BitVec 32 := Scalar.addi v2 c10_i32_162
  let c16_i32_163 : BitVec 32 := 16#32
  let v179 : BitVec 32 := Scalar.remsi v178 c16_i32_163
  let c1_i32_168 : BitVec 32 := 1#32
  let v181 : BitVec 32 := Scalar.muli v179 c1_i32_168
  let v182 : BitVec 32 := Scalar.addi c0_i32_169 v181
  v182.toNat
def k0_dev26 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_173 : BitVec 32 := 11#32
  let v190 : BitVec 32 := Scalar.addi v2 c11_i32_173
  let c16_i32_174 : BitVec 32 := 16#32
  let v191 : BitVec 32 := Scalar.remsi v190 c16_i32_174
  let c1_i32_179 : BitVec 32 := 1#32
  let v193 : BitVec 32 := Scalar.muli v191 c1_i32_179
  let v194 : BitVec 32 := Scalar.addi c0_i32_180 v193
  v194.toNat
def k0_dev27 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_184 : BitVec 32 := 12#32
  let v202 : BitVec 32 := Scalar.addi v2 c12_i32_184
  let c16_i32_185 : BitVec 32 := 16#32
  let v203 : BitVec 32 := Scalar.remsi v202 c16_i32_185
  let c1_i32_190 : BitVec 32 := 1#32
  let v205 : BitVec 32 := Scalar.muli v203 c1_i32_190
  let v206 : BitVec 32 := Scalar.addi c0_i32_191 v205
  v206.toNat
def k0_dev28 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_195 : BitVec 32 := 13#32
  let v214 : BitVec 32 := Scalar.addi v2 c13_i32_195
  let c16_i32_196 : BitVec 32 := 16#32
  let v215 : BitVec 32 := Scalar.remsi v214 c16_i32_196
  let c1_i32_201 : BitVec 32 := 1#32
  let v217 : BitVec 32 := Scalar.muli v215 c1_i32_201
  let v218 : BitVec 32 := Scalar.addi c0_i32_202 v217
  v218.toNat
def k0_dev29 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_206 : BitVec 32 := 14#32
  let v226 : BitVec 32 := Scalar.addi v2 c14_i32_206
  let c16_i32_207 : BitVec 32 := 16#32
  let v227 : BitVec 32 := Scalar.remsi v226 c16_i32_207
  let c1_i32_212 : BitVec 32 := 1#32
  let v229 : BitVec 32 := Scalar.muli v227 c1_i32_212
  let v230 : BitVec 32 := Scalar.addi c0_i32_213 v229
  v230.toNat
def k0_dev30 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_217 : BitVec 32 := 15#32
  let v238 : BitVec 32 := Scalar.addi v2 c15_i32_217
  let c16_i32_218 : BitVec 32 := 16#32
  let v239 : BitVec 32 := Scalar.remsi v238 c16_i32_218
  let c1_i32_223 : BitVec 32 := 1#32
  let v241 : BitVec 32 := Scalar.muli v239 c1_i32_223
  let v242 : BitVec 32 := Scalar.addi c0_i32_224 v241
  v242.toNat
def k0_off2 (d0 : Dev nD) (c0_i32_228 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v250 : BitVec 32 := Scalar.subi v2 c0_i32_228
  let c16_i32_229 : BitVec 32 := 16#32
  let v251 : BitVec 32 := Scalar.addi v250 c16_i32_229
  let c16_i32_230 : BitVec 32 := 16#32
  let v252 : BitVec 32 := Scalar.remsi v251 c16_i32_230
  let c256_i32_231 : BitVec 32 := 256#32
  let v253 : BitVec 32 := Scalar.muli v252 c256_i32_231
  let c0_i32_236 : BitVec 32 := 0#32
  ![v253.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_578 : BitVec 32 := 256#32
  let v634 : BitVec 32 := Scalar.muli v2 c256_i32_578
  let v635 : Index := Scalar.indexCast v634
  let c0_579 : Index := 0#32
  ![v635.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.KernelIdealProg.lean ====
/-
# 01_k — the kernel as loops

The printed kernel is straight-line: every loop of the source is unrolled. Here the same program is written as
loops over the peer offset and the block number (`prog`), and `body_eq_prog` says that it is the printed one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-! ## The buffers -/

abbrev xM : Memref sig .tc .vmem S4096x256 .f32 := Memref.whole cc0_stg0_0
abbrev wM : Memref sig .tc .hbm S4096x2048 .f32 := Memref.whole main_arg1
abbrev sxM : Memref sig .tc .smem S1 .f32 := Memref.whole cc0_stg1_0
abbrev swM : Memref sig .tc .smem S1 .f32 := Memref.whole cc0_stg2_0
abbrev oM : Memref sig .tc .vmem S256x2048 .f32 := Memref.whole cc0_stg3_0
abbrev xsM : Memref sig .tc .vmem S4096x256 .fp8e4m3 := Memref.whole cc0_scratch0
abbrev cmM : Memref sig .tc .vmem S16x256x256 .fp8e4m3 := Memref.whole cc0_scratch1
abbrev xtM : Memref sig .tc .vmem S256x4096 .fp8e4m3 := Memref.whole cc0_scratch2
abbrev wbM : Memref sig .tc .vmem S4x256x2048 .f32 := Memref.whole cc0_scratch3
abbrev wfM : Memref sig .tc .vmem S4096x2048 .fp8e4m3 := Memref.whole cc0_scratch4

/-! ## The rectangles, at a variable index -/

theorem inb_cm : ∀ (j : Fin 16) (a), (![j.val, 0, 0] : Fin 3 → Nat) a + S1x256x256.size a ≤ S16x256x256.size a := by decide
theorem inb_wb : ∀ (j : Fin 4) (a), (![j.val, 0, 0] : Fin 3 → Nat) a + S1x256x2048.size a ≤ S4x256x2048.size a := by decide
theorem inb_xt : ∀ (j : Fin 16) (a), (![0, 256 * j.val] : Fin 2 → Nat) a + S256x256.size a ≤ S256x4096.size a := by decide
theorem inb_wf : ∀ (j : Fin 16) (a), (![256 * j.val, 0] : Fin 2 → Nat) a + S256x2048.size a ≤ S4096x2048.size a := by decide
theorem inb_s16 : ∀ (j : Fin 16) (a), (![j.val] : Fin 1 → Nat) a + S1.size a ≤ S16.size a := by decide
theorem inb_s4 : ∀ (j : Fin 4) (a), (![j.val] : Fin 1 → Nat) a + S1.size a ≤ S4.size a := by decide

abbrev cmR (j : Fin 16) : Rect S16x256x256 := Rect.unit (s := S16x256x256) ![j.val, 0, 0] S1x256x256.size (inb_cm j)
abbrev wbR (j : Fin 4) : Rect S4x256x2048 := Rect.unit (s := S4x256x2048) ![j.val, 0, 0] S1x256x2048.size (inb_wb j)
abbrev xtR (j : Fin 16) : Rect S256x4096 := Rect.unit (s := S256x4096) ![0, 256 * j.val] S256x256.size (inb_xt j)
abbrev wfR (j : Fin 16) : Rect S4096x2048 := Rect.unit (s := S4096x2048) ![256 * j.val, 0] S256x2048.size (inb_wf j)
abbrev xsR (d0 : Dev nD) (r : Fin 15) : Rect S4096x256 :=
  Rect.unit (s := S4096x256) (k0_off1 d0 (BitVec.ofNat 32 (1 + r.val))) S256x256.size (k0_off1_inb d0 r)
abbrev ownR (d0 : Dev nD) : Rect S4096x256 := Rect.unit (s := S4096x256) (k0_off3 d0) S256x256.size (k0_off3_inb d0)
abbrev wR (d0 : Dev nD) (k : Fin 16) : Rect S4096x2048 :=
  Rect.unit (s := S4096x2048) (k0_off2 d0 (BitVec.ofNat 32 k.val)) S256x2048.size (k0_off2_inb d0 k)

theorem words_cm : ∀ j : Fin 16, (cmR j).WholeWords (EltTy.packing .fp8e4m3) := by decide
theorem packed_xt : ∀ j : Fin 16, (xtR j).PackedRows (EltTy.packing .fp8e4m3) := by decide
theorem packed_wf : ∀ j : Fin 16, (wfR j).PackedRows (EltTy.packing .fp8e4m3) := by decide

/-! ## The views the transfers name -/

/-- Rows of the converted input that go to the peer `r + 1` places on. -/
abbrev xsl (d0 : Dev nD) (r : Fin 15) : Memref sig .tc .vmem S256x256 .fp8e4m3 := xsM.slice (xsR d0 r) (fun _ => rfl)
/-- Slot `j` of the landing buffer. -/
abbrev csl (j : Fin 16) : Memref sig .tc .vmem S256x256 .fp8e4m3 :=
  (cmM.slice (cmR j) (fun _ => rfl)).squeeze S256x256 squeezes_S1x256x256_S256x256
/-- Slot `j` of the buffer the weight's row blocks land in. -/
abbrev wbs (j : Fin 4) : Memref sig .tc .vmem S256x2048 .f32 :=
  (wbM.slice (wbR j) (fun _ => rfl)).squeeze S256x2048 squeezes_S1x256x2048_S256x2048
/-- The weight's row block that is read `k`-th. -/
abbrev wsl (d0 : Dev nD) (k : Fin 16) : Memref sig .tc .hbm S256x2048 .f32 := wM.slice (wR d0 k) (fun _ => rfl)

abbrev sendS (j : Fin 16) : DmaSem sig :=
  ((cc0_scratch5.slice (Rect.unit (s := S16) ![j.val] S1.size (inb_s16 j)) : DmaSems sig S1).squeeze S_ squeezes_S1_S_ : DmaSems sig S_).sem
abbrev recvS (j : Fin 16) : DmaSem sig :=
  ((cc0_scratch6.slice (Rect.unit (s := S16) ![j.val] S1.size (inb_s16 j)) : DmaSems sig S1).squeeze S_ squeezes_S1_S_ : DmaSems sig S_).sem
abbrev wS (j : Fin 4) : DmaSem sig :=
  ((cc0_scratch7.slice (Rect.unit (s := S4) ![j.val] S1.size (inb_s4 j)) : DmaSems sig S1).squeeze S_ squeezes_S1_S_ : DmaSems sig S_).sem

theorem words_xs (d0 : Dev nD) (r : Fin 15) : (xsl d0 r).view.WordExact :=
  (Memref.isWhole_whole cc0_scratch0).wordExact_slice rfl _ (k0_off1_wordsfp8e4m3 d0 r)
theorem words_cs (j : Fin 16) : (csl j).view.WordExact :=
  ((Memref.isWhole_whole cc0_scratch1).wordExact_slice rfl _ (words_cm j)).reshape _ _

/-! ## The loops -/

abbrev PR (F : FTy → Type) [FloatOps F] := Prog (TpuEff nD τ sig (Elt F) Λ₀ .tc) PUnit

/-- `n` steps of a loop of `N`: the last `n` of them, then `k`. -/
def steps {α : Type _} {N : Nat} (step : Fin N → α → α) : (n : Nat) → n ≤ N → α → α
  | 0, _, k => k
  | n + 1, h, k => step ⟨N - (n + 1), Nat.sub_lt (Nat.lt_of_lt_of_le (Nat.succ_pos n) h) (Nat.succ_pos n)⟩
      (steps step n (Nat.le_of_succ_le h) k)

/-- The device the signal of offset `r + 1` goes to, as the program computes it. -/
def sigDev (d0 : Dev nD) : Fin 15 → Dev nD :=
  ![⟨k0_dev1 d0, k0_dev1_lt d0⟩, ⟨k0_dev2 d0, k0_dev2_lt d0⟩, ⟨k0_dev3 d0, k0_dev3_lt d0⟩, ⟨k0_dev4 d0, k0_dev4_lt d0⟩,
    ⟨k0_dev5 d0, k0_dev5_lt d0⟩, ⟨k0_dev6 d0, k0_dev6_lt d0⟩, ⟨k0_dev7 d0, k0_dev7_lt d0⟩, ⟨k0_dev8 d0, k0_dev8_lt d0⟩,
    ⟨k0_dev9 d0, k0_dev9_lt d0⟩, ⟨k0_dev10 d0, k0_dev10_lt d0⟩, ⟨k0_dev11 d0, k0_dev11_lt d0⟩, ⟨k0_dev12 d0, k0_dev12_lt d0⟩,
    ⟨k0_dev13 d0, k0_dev13_lt d0⟩, ⟨k0_dev14 d0, k0_dev14_lt d0⟩, ⟨k0_dev15 d0, k0_dev15_lt d0⟩]
/-- The device the copy of offset `r + 1` goes to, as the program computes it. -/
def cpyDev (d0 : Dev nD) : Fin 15 → Dev nD :=
  ![⟨k0_dev16 d0, k0_dev16_lt d0⟩, ⟨k0_dev17 d0, k0_dev17_lt d0⟩, ⟨k0_dev18 d0, k0_dev18_lt d0⟩, ⟨k0_dev19 d0, k0_dev19_lt d0⟩,
    ⟨k0_dev20 d0, k0_dev20_lt d0⟩, ⟨k0_dev21 d0, k0_dev21_lt d0⟩, ⟨k0_dev22 d0, k0_dev22_lt d0⟩, ⟨k0_dev23 d0, k0_dev23_lt d0⟩,
    ⟨k0_dev24 d0, k0_dev24_lt d0⟩, ⟨k0_dev25 d0, k0_dev25_lt d0⟩, ⟨k0_dev26 d0, k0_dev26_lt d0⟩, ⟨k0_dev27 d0, k0_dev27_lt d0⟩,
    ⟨k0_dev28 d0, k0_dev28_lt d0⟩, ⟨k0_dev29 d0, k0_dev29_lt d0⟩, ⟨k0_dev30 d0, k0_dev30_lt d0⟩]

/-- The peer at offset `r + 1`. -/
def peer (c : Dev nD) (r : Fin 15) : Dev nD := c + r.succ

theorem sigDev_eq : ∀ (c : Dev nD) (r : Fin 15), sigDev c r = peer c r := by decide +kernel
theorem cpyDev_eq : ∀ (c : Dev nD) (r : Fin 15), cpyDev c r = peer c r := by decide +kernel

abbrev barS : Sem sig := (SemArray.scalar (sig.barrier 0 rfl) : Sems sig S_).sem

def sigStep (d0 : Dev nD) (r : Fin 15) (k : PR F) : PR F :=
  .op (.semSignal (Dev.tc (sigDev d0 r)) barS ((1 : ℕ) : ℤ)) fun _ => k

def cpyStep (d0 : Dev nD) (r : Fin 15) (k : PR F) : PR F :=
  .op (.enqueueDma (xsl d0 r) (.remote (Dev.tc (cpyDev d0 r)) (csl r.succ) (.dma (sendS r.succ))) (.dma (recvS r.succ))
    (words_xs d0 r) (words_cs r.succ) ⟨⟨rfl, Or.inl rfl⟩, trivial⟩) fun _ => k

abbrev slot (k : Fin 16) : Fin 4 := ⟨k.val % 4, Nat.mod_lt _ (by decide)⟩

/-- Start fetching the weight's `k`-th row block. -/
def wIssue (d0 : Dev nD) (k : Fin 16) (K : PR F) : PR F :=
  .op (.enqueueDma (wsl d0 k) (.here (wbs (slot k))) (.dma (wS (slot k)))
    (View.wordExact_bits rfl) ((View.wordExact_bits rfl).reshape _ _) ⟨Or.inl rfl, trivial⟩) fun _ => K

def wWork (d0 : Dev nD) (k : Fin 16) (K : PR F) : PR F :=
  .op (.waitDma2 (wS (slot k)) (wsl d0 k) (wbs (slot k)) (View.wordExact_bits rfl) ((View.wordExact_bits rfl).reshape _ _)) fun _ =>
  .op (.load wbM (wbR (slot k)).toLoadRect (View.loadsAt_vmem h_S1x256x2048)) fun v =>
  .op (.load wfM (wfR k).toLoadRect (View.loadsAt_vmem h_S256x2048)) fun _ =>
  .op (.store wfM (wfR k) (k0_pay2 v) Finset.univ
    (View.stores_vmem h_S256x2048 ((Memref.isWhole_whole cc0_scratch4).storeExact_slice rfl _ (packed_wf k)) (fun _ => rfl)) (.inl rfl)) fun _ => K

def wStep (d0 : Dev nD) (k : Fin 16) (K : PR F) : PR F :=
  wWork d0 k (if h : k.val + 4 < 16 then wIssue d0 ⟨k.val + 4, h⟩ K else K)

def xWork (d0 : Dev nD) (r : Fin 15) (K : PR F) : PR F :=
  .op (.waitDma2 (recvS r.succ) (xsl d0 r) (csl r.succ) (words_xs d0 r) (words_cs r.succ)) fun _ =>
  .op (.load cmM (cmR r.succ).toLoadRect (View.loadsAt_vmem h_S1x256x256)) fun v =>
  .op (.load xtM (xtR r.succ).toLoadRect (View.loadsAt_vmem h_S256x256)) fun _ =>
  .op (.store xtM (xtR r.succ) (k0_pay19 v) Finset.univ
    (View.stores_vmem h_S256x256 ((Memref.isWhole_whole cc0_scratch2).storeExact_slice rfl _ (packed_xt r.succ)) (fun _ => rfl)) (.inl rfl)) fun _ => K

def sndStep (d0 : Dev nD) (r : Fin 15) (K : PR F) : PR F :=
  .op (.waitDma2 (sendS r.succ) (csl r.succ) (xsl d0 r) (words_cs r.succ) (words_xs d0 r)) fun _ => K

abbrev xR : Rect S4096x256 := Rect.unit (s := S4096x256) ![0, 0] S4096x256.size inb_S4096x256_S4096x256_0_0
abbrev oR : Rect S256x2048 := Rect.unit (s := S256x2048) ![0, 0] S256x2048.size inb_S256x2048_S256x2048_0_0

def convert (K : PR F) : PR F :=
  .op (.load xM xR.toLoadRect (View.loadsAt_vmem h_S4096x256)) fun v =>
  .op (.load xsM xR.toLoadRect (View.loadsAt_vmem h_S4096x256)) fun _ =>
  .op (.store xsM xR (k0_pay1 v) Finset.univ
    (View.stores_vmem h_S4096x256 ((Memref.isWhole_whole cc0_scratch0).storeExact_slice rfl _ packedfp8e4m3_S4096x256_S4096x256_0_0) (fun _ => rfl)) (.inl rfl)) fun _ => K

def ownWork (d0 : Dev nD) (K : PR F) : PR F :=
  .op (.load xsM (ownR d0).toLoadRect (View.loadsAt_vmem h_S256x256)) fun v =>
  .op (.load xtM (xtR 0).toLoadRect (View.loadsAt_vmem h_S256x256)) fun _ =>
  .op (.store xtM (xtR 0) (k0_pay18 v) Finset.univ
    (View.stores_vmem h_S256x256 ((Memref.isWhole_whole cc0_scratch2).storeExact_slice rfl _ (packed_xt 0)) (fun _ => rfl)) (.inl rfl)) fun _ => K

def multiply (K : PR F) : PR F :=
  .op (.load xtM (Rect.unit (s := S256x4096) ![0, 0] S256x4096.size inb_S256x4096_S256x4096_0_0).toLoadRect (View.loadsAt_vmem h_S256x4096)) fun a =>
  .op (.load wfM (Rect.unit (s := S4096x2048) ![0, 0] S4096x2048.size inb_S4096x2048_S4096x2048_0_0).toLoadRect (View.loadsAt_vmem h_S4096x2048)) fun b =>
  (smemLoad sxM (Rect.unit (s := S1) ![0] S1.size inb_S1_S1_0) numel1_S1 rfl).bind fun u =>
  (smemLoad swM (Rect.unit (s := S1) ![0] S1.size inb_S1_S1_0) numel1_S1 rfl).bind fun v =>
  .op (.load oM oR.toLoadRect (View.loadsAt_vmem h_S256x2048)) fun _ =>
  .op (.store oM oR (k0_pay35 a b u v) Finset.univ (View.stores_vmem_bits_univ h_S256x2048 rfl) (.inl rfl)) fun _ => K

/-- The kernel, with its loops. -/
def prog : PR F :=
  .op .deviceId fun d0 =>
  steps (sigStep d0) 15 le_rfl <|
  .op (.semWait barS ((15 : ℕ) : ℤ)) fun _ =>
  convert <|
  steps (cpyStep d0) 15 le_rfl <|
  wIssue d0 0 <| wIssue d0 1 <| wIssue d0 2 <| wIssue d0 3 <|
  steps (wStep d0) 16 le_rfl <|
  ownWork d0 <|
  steps (xWork d0) 15 le_rfl <|
  multiply <|
  steps (sndStep d0) 15 le_rfl <| .ret ⟨⟩

set_option maxRecDepth 65536 in
set_option maxHeartbeats 0 in
/-- The printed kernel, at the buffers the launch gives it, is `prog`. -/
theorem body_eq_prog :
    cc0_body (F := F) (Memref.whole cc0_stg0_0) (Memref.isWhole_whole _) (Memref.whole main_arg1) (Memref.isWhole_whole _)
      (Memref.whole cc0_stg1_0) (Memref.isWhole_whole _) (Memref.whole cc0_stg2_0) (Memref.isWhole_whole _)
      (Memref.whole cc0_stg3_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7
    = prog (F := F) := by
  rfl

end Cert.KernelIdealProof
-- ==== Proof.KernelIdealRounds.lean ====
/-
# 01_k — the protocol

Device `c` at offset `r + 1` (`r : Fin 15`) sends to its peer `c + (r + 1)`. Semaphores of a device:

* the barrier: each of the 15 others signals it once and the device waits for 15. The signal of the device `c + (d + 1)`
  is duty `d` of `c`'s barrier; it hands over that device's landing slot `d + 1`, the one `c`'s copy at offset `d + 1`
  writes. So `c`'s signal to `c + (r + 1)` is duty `r.rev` there, and hands over `c`'s slot `r.rev + 1`.
* send semaphore `r + 1`: credited by `c`'s own copy at that offset when the copy is done; hands back the rows of the
  converted input it read, unchanged.
* receive semaphore `r + 1`: credited by the copy of `c - (r + 1)`; hands over slot `r + 1`, which now reads as the rows
  of that device's converted input that belong to `c`.
* the four semaphores of the weight's row blocks are used by `c` alone.

A device owes its 15 signals and its 15 copies; it waits on its barrier owing the copies only, and on everything else
owing nothing.
-/
module

public import proofs.«01_k».proof.Proof.KernelIdealProg

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's rounds, the counters of the local transfers -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

omit [FloatOps F] in
instance er_lands : (ER (F := F)).LandsIn (upEmb : UEmb _ 𝕄) := by unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- A device's exchange semaphores: its barrier, and send (`false`) and receive (`true`) of each offset. -/
abbrev CI : Type := Option (Bool × Fin 15)

abbrev csem : CI → SemLoc sig
  | none => .reg barS
  | some (false, r) => .dma (sendS r.succ)
  | some (true, r) => .dma (recvS r.succ)

abbrev kcell (ci : Dev nD × CI) : GSem nD τ sig := ((ci.1 : Thread nD τ), csem ci.2)
abbrev barCell (c : Dev nD) : GSem nD τ sig := ((c : Thread nD τ), .reg barS)
abbrev sendCell (c : Dev nD) (r : Fin 15) : GSem nD τ sig := ((c : Thread nD τ), .dma (sendS r.succ))
abbrev recvCell (c : Dev nD) (r : Fin 15) : GSem nD τ sig := ((c : Thread nD τ), .dma (recvS r.succ))

/-- Which exchange semaphore a semaphore is. -/
def role : SemLoc sig → Option CI
  | .reg _ => some none
  | .dma q =>
    if h : 5 ≤ q.val ∧ q.val < 20 then some (some (false, ⟨q.val - 5, by omega⟩))
    else if h : 21 ≤ q.val ∧ q.val < 36 then some (some (true, ⟨q.val - 21, by omega⟩))
    else none

theorem sendS_val : ∀ j : Fin 16, (sendS j).val = 4 + j.val := by decide
theorem recvS_val : ∀ j : Fin 16, (recvS j).val = 20 + j.val := by decide
theorem wS_val : ∀ j : Fin 4, (wS j).val = 36 + j.val := by decide

theorem role_bar : role (.reg barS) = some none := rfl
theorem role_send : ∀ r : Fin 15, role (.dma (sendS r.succ)) = some (some (false, r)) := by decide
theorem role_recv : ∀ r : Fin 15, role (.dma (recvS r.succ)) = some (some (true, r)) := by decide
theorem role_csem : ∀ i : CI, role (csem i) = some i
  | none => rfl
  | some (false, r) => role_send r
  | some (true, r) => role_recv r

theorem kcell_injective : Function.Injective kcell := by
  rintro ⟨c, i⟩ ⟨c', i'⟩ h
  have h1 : c = c' := congrArg (fun g : GSem nD τ sig => g.1.1) h
  have h2 : role (csem i) = role (csem i') := congrArg (fun g : GSem nD τ sig => role g.2) h
  rw [role_csem, role_csem, Option.some.injEq] at h2
  rw [h1, h2]

abbrev N : ℕ := (csl 0).view.dmaCredit
theorem N_pos : 0 < N := View.dmaCredit_pos _ (by decide)

/-! ## Peers -/

theorem peer_rev (c : Dev nD) (r : Fin 15) : peer (peer c r) r.rev = c := by
  revert c r; decide +kernel
theorem peer_sub (c : Dev nD) (r : Fin 15) : peer c r - r.succ = c := by
  revert c r; decide +kernel
theorem peer_inj (c : Dev nD) : Function.Injective (peer c) := by
  revert c; decide +kernel

/-! ## The row blocks and slots -/

theorem inb_xs : ∀ (p : Fin 16) (a), (![256 * p.val, 0] : Fin 2 → Nat) a + S256x256.size a ≤ S4096x256.size a := by decide
/-- Rows `256 p` to `256 p + 255` of the converted input. -/
abbrev xsB (p : Dev nD) : Rect S4096x256 := Rect.unit (s := S4096x256) ![256 * p.val, 0] S256x256.size (inb_xs p)
abbrev xsMb (p : Dev nD) : Memref sig .tc .vmem S256x256 .fp8e4m3 := xsM.slice (xsB p) (fun _ => rfl)
/-- Rows `256 p` to `256 p + 255` of the weight. -/
abbrev wMb (p : Fin 16) : Memref sig .tc .hbm S256x2048 .f32 := wM.slice (wfR p) (fun _ => rfl)

theorem off1_eq (c : Dev nD) (r : Fin 15) :
    k0_off1 c (BitVec.ofNat 32 (1 + r.val)) = ![256 * (peer c r).val, 0] := by
  rw [k0_off1_eq]
  have : ∀ (c : Dev nD) (r : Fin 15), (c.val + r.val + 1) % 16 = (peer c r).val := by decide +kernel
  rw [this]

theorem off2_eq (c : Dev nD) (k : Fin 16) :
    k0_off2 c (BitVec.ofNat 32 k.val) = ![256 * (c - k).val, 0] := by
  rw [k0_off2_eq]
  have : ∀ c k : Fin 16, ((c.val + 16) - k.val) % 16 = (c - k).val := by decide +kernel
  rw [this]

theorem xsl_eq (c : Dev nD) (r : Fin 15) : xsl c r = xsMb (peer c r) := Memref.slice_unit_congr _ (off1_eq c r) _ _ _ _
theorem wsl_eq (c : Dev nD) (k : Fin 16) : wsl c k = wMb (c - k) := Memref.slice_unit_congr _ (off2_eq c k) _ _ _ _

theorem xsMb_set (p : Dev nD) : (xsMb p).view.set = (xsB p).set := View.set_slice_whole _ _
theorem wMb_set (p : Fin 16) : (wMb p).view.set = (wfR p).set := View.set_slice_whole _ _
theorem csl_set (j : Fin 16) : (csl j).view.set = (cmR j).set := by
  rw [Memref.set_view_squeeze]; exact View.set_slice_whole _ _
theorem wbs_set (j : Fin 4) : (wbs j).view.set = (wbR j).set := by
  rw [Memref.set_view_squeeze]; exact View.set_slice_whole _ _

/-- Rectangles that keep to different blocks of one axis are disjoint; -/
theorem disjoint_of_axis {s : Shape} {off off' size : Fin s.rank → Nat} {h h'} (a : Fin s.rank)
    (hne : off a + size a ≤ off' a ∨ off' a + size a ≤ off a) :
    Disjoint (Rect.unit (s := s) off size h).set (Rect.unit (s := s) off' size h').set := by
  rw [Finset.disjoint_left]
  intro i hi hi'
  have h1 := Rect.mem_set_unit.mp hi a
  have h2 := Rect.mem_set_unit.mp hi' a
  omega

theorem xsB_disj (p q : Dev nD) (h : p ≠ q) : Disjoint (xsB p).set (xsB q).set :=
  disjoint_of_axis (0 : Fin 2) (by
    have : p.val ≠ q.val := fun e => h (Fin.ext e)
    show 256 * p.val + 256 ≤ 256 * q.val ∨ 256 * q.val + 256 ≤ 256 * p.val
    omega)
theorem wfR_disj (p q : Fin 16) (h : p ≠ q) : Disjoint (wfR p).set (wfR q).set :=
  disjoint_of_axis (0 : Fin 2) (by
    have : p.val ≠ q.val := fun e => h (Fin.ext e)
    show 256 * p.val + 256 ≤ 256 * q.val ∨ 256 * q.val + 256 ≤ 256 * p.val
    omega)
theorem xtR_disj (p q : Fin 16) (h : p ≠ q) : Disjoint (xtR p).set (xtR q).set :=
  disjoint_of_axis (1 : Fin 2) (by
    have : p.val ≠ q.val := fun e => h (Fin.ext e)
    show 256 * p.val + 256 ≤ 256 * q.val ∨ 256 * q.val + 256 ≤ 256 * p.val
    omega)
theorem cmR_disj (p q : Fin 16) (h : p ≠ q) : Disjoint (cmR p).set (cmR q).set :=
  disjoint_of_axis (0 : Fin 3) (by
    have : p.val ≠ q.val := fun e => h (Fin.ext e)
    show p.val + 1 ≤ q.val ∨ q.val + 1 ≤ p.val
    omega)
theorem wbR_disj (p q : Fin 4) (h : p ≠ q) : Disjoint (wbR p).set (wbR q).set :=
  disjoint_of_axis (0 : Fin 3) (by
    have : p.val ≠ q.val := fun e => h (Fin.ext e)
    show p.val + 1 ≤ q.val ∨ q.val + 1 ≤ p.val
    omega)

theorem xsB_cover : (Finset.univ : Finset (Dev nD)).biUnion (fun p => (xsB p).set) = Finset.univ := by
  ext i
  simp only [Finset.mem_biUnion, Finset.mem_univ, true_and, iff_true]
  have h0 : (i 0).val < 4096 := (i 0).isLt
  have h1 : (i 1).val < 256 := (i 1).isLt
  refine ⟨⟨(i 0).val / 256, by show _ < 16; omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 256
    omega
theorem wfR_cover : (Finset.univ : Finset (Fin 16)).biUnion (fun p => (wfR p).set) = Finset.univ := by
  ext i
  simp only [Finset.mem_biUnion, Finset.mem_univ, true_and, iff_true]
  have h0 : (i 0).val < 4096 := (i 0).isLt
  have h1 : (i 1).val < 2048 := (i 1).isLt
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 2048
    omega
theorem cmR_cover : (Finset.univ : Finset (Fin 16)).biUnion (fun p => (cmR p).set) = Finset.univ := by
  ext i
  simp only [Finset.mem_biUnion, Finset.mem_univ, true_and, iff_true]
  have h0 : (i 0).val < 16 := (i 0).isLt
  have h1 : (i 1).val < 256 := (i 1).isLt
  have h2 : (i 2).val < 256 := (i 2).isLt
  refine ⟨⟨(i 0).val, h0⟩, Rect.mem_set_unit.mpr (Fin.forall_fin_succ.mpr ⟨?_, Fin.forall_fin_two.mpr ⟨?_, ?_⟩⟩)⟩
  · show (i 0).val ≤ (i 0).val ∧ (i 0).val < (i 0).val + 1
    omega
  · show 0 ≤ (i 1).val ∧ (i 1).val < 0 + 256
    omega
  · show 0 ≤ (i 2).val ∧ (i 2).val < 0 + 256
    omega
theorem wbR_cover : (Finset.univ : Finset (Fin 4)).biUnion (fun p => (wbR p).set) = Finset.univ := by
  ext i
  simp only [Finset.mem_biUnion, Finset.mem_univ, true_and, iff_true]
  have h0 : (i 0).val < 4 := (i 0).isLt
  have h1 : (i 1).val < 256 := (i 1).isLt
  have h2 : (i 2).val < 2048 := (i 2).isLt
  refine ⟨⟨(i 0).val, h0⟩, Rect.mem_set_unit.mpr (Fin.forall_fin_succ.mpr ⟨?_, Fin.forall_fin_two.mpr ⟨?_, ?_⟩⟩)⟩
  · show (i 0).val ≤ (i 0).val ∧ (i 0).val < (i 0).val + 1
    omega
  · show 0 ≤ (i 1).val ∧ (i 1).val < 0 + 256
    omega
  · show 0 ≤ (i 2).val ∧ (i 2).val < 0 + 2048
    omega

/-! ## Contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))
def sxstg (c : Dev nD) : (cc0_stg1_0 : Ref sig .tc).ty.Contents (Elt F) :=
  (win0_1.blk (0 : Fin 1)).view.read (Elt F) ((s₀ m ρ).mem ((c : Thread nD τ).loc main_arg2))
def swstg (c : Dev nD) : (cc0_stg2_0 : Ref sig .tc).ty.Contents (Elt F) :=
  (win0_2.blk (0 : Fin 1)).view.read (Elt F) ((s₀ m ρ).mem ((c : Thread nD τ).loc main_arg3))
def wOf (c : Dev nD) : (main_arg1 : Ref sig .tc).ty.Contents (Elt F) := m ((c : Thread nD τ).loc main_arg1)

/-- The converted input of device `c`. -/
def X8 (c : Dev nD) : (cc0_scratch0 : Ref sig .tc).ty.Contents (Elt F) := k0_pay1 (xstg m ρ c)

/-- The rows of `c - j`'s converted input that belong to `c`. -/
def blkX (c : Dev nD) (j : Fin 16) : Vec F S256x256 .fp8e4m3 := (xsMb c).view.read (Elt F) (X8 m ρ (c - j))
/-- The `k`-th row block of the weight that `c` reads, before its conversion. -/
def rawW (c : Dev nD) (k : Fin 16) : Vec F S256x2048 .f32 := (wMb (c - k)).view.read (Elt F) (wOf m c)
/-- and after it. -/
def blkW (c : Dev nD) (k : Fin 16) : Vec F S256x2048 .fp8e4m3 :=
  shapeCast S256x2048 (truncf .fp8e4m3 (rawW m c k : FVec F S256x2048 .f32) bitsLt_fp8e4m3_f32 : FVec F S256x2048 .fp8e4m3) shapeCasts_S256x2048_S256x2048

/-- The block a column of the gathered input belongs to, and its place in the block. -/
def xtCol (i : S256x4096.Idx) : Fin 16 := ⟨(i 1).val / 256, by have : (i 1).val < 4096 := (i 1).isLt; omega⟩
def xtPos (i : S256x4096.Idx) : S256x256.Idx :=
  Fin.cons (i 0) (Fin.cons ⟨(i 1).val % 256, Nat.mod_lt _ (by decide)⟩ finZeroElim)
/-- The block a row of the converted weight belongs to, and its place in the block. -/
def wfRow (i : S4096x2048.Idx) : Fin 16 := ⟨(i 0).val / 256, by have : (i 0).val < 4096 := (i 0).isLt; omega⟩
def wfPos (i : S4096x2048.Idx) : S256x2048.Idx :=
  Fin.cons ⟨(i 0).val % 256, Nat.mod_lt _ (by decide)⟩ (Fin.cons (i 1) finZeroElim)

/-- The gathered input of device `c`: block column `j` is what came from `c - j`. -/
def XT (c : Dev nD) : (cc0_scratch2 : Ref sig .tc).ty.Contents (Elt F) :=
  fun i => shapeCast S256x256 (blkX m ρ c (xtCol i)) shapeCasts_S256x256_S256x256 (xtPos i)
/-- The converted weight as `c` stores it: block row `k` is the block read `k`-th. -/
def WF (c : Dev nD) : (cc0_scratch4 : Ref sig .tc).ty.Contents (Elt F) :=
  fun i => blkW m c (wfRow i) (wfPos i)

/-- Contents that read as the right block at every block column are the gathered input; -/
theorem eq_XT (c : Dev nD) (f : (cc0_scratch2 : Ref sig .tc).ty.Contents (Elt F))
    (h : ∀ j : Fin 16, ((View.whole cc0_scratch2).slice (xtR j)).read (Elt F) f = shapeCast S256x256 (blkX m ρ c j) shapeCasts_S256x256_S256x256) :
    f = XT m ρ c := by
  funext i
  have he : (xtR (xtCol i)).emb (xtPos i) = i := by
    funext a
    refine Fin.ext ?_
    fin_cases a
    · show 0 + 1 * (i 0).val = (i 0).val; omega
    · show 256 * ((i 1).val / 256) + 1 * ((i 1).val % 256) = (i 1).val; omega
  show f i = shapeCast S256x256 (blkX m ρ c (xtCol i)) shapeCasts_S256x256_S256x256 (xtPos i)
  rw [← h (xtCol i)]
  show f i = f ((xtR (xtCol i)).emb (xtPos i))
  rw [he]
/-- and the same of the weight's rows. -/
theorem eq_WF (c : Dev nD) (f : (cc0_scratch4 : Ref sig .tc).ty.Contents (Elt F))
    (h : ∀ k : Fin 16, ((View.whole cc0_scratch4).slice (wfR k)).read (Elt F) f = blkW m c k) :
    f = WF m c := by
  funext i
  have he : (wfR (wfRow i)).emb (wfPos i) = i := by
    funext a
    refine Fin.ext ?_
    fin_cases a
    · show 256 * ((i 0).val / 256) + 1 * ((i 0).val % 256) = (i 0).val; omega
    · show 0 + 1 * (i 1).val = (i 1).val; omega
  show f i = blkW m c (wfRow i) (wfPos i)
  rw [← h (wfRow i)]
  show f i = f ((wfR (wfRow i)).emb (wfPos i))
  rw [he]

/-- The one index of a one-element array. -/
def ix1 : S1.Idx := Fin.cons ⟨0, Nat.one_pos⟩ finZeroElim

/-- The kernel's result on device `c`. -/
def outAt (c : Dev nD) : (cc0_stg3_0 : Ref sig .tc).ty.Contents (Elt F) :=
  k0_pay35 (XT m ρ c) (WF m c) (sxstg m ρ c ix1) (swstg m ρ c ix1)

/-! ## Points-tos -/

abbrev xsPt (c p : Dev nD) (f : (cc0_scratch0 : Ref sig .tc).ty.Contents (Elt F)) : sProp 𝕄 :=
  ((c : Thread nD τ).loc cc0_scratch0) ↦[(xsB p).set]{fullShare} f
abbrev cmPt (c : Dev nD) (j : Fin 16) (f : (cc0_scratch1 : Ref sig .tc).ty.Contents (Elt F)) : sProp 𝕄 :=
  ((c : Thread nD τ).loc cc0_scratch1) ↦[(cmR j).set]{fullShare} f
abbrev wPt (c : Dev nD) (p : Fin 16) (f : (main_arg1 : Ref sig .tc).ty.Contents (Elt F)) : sProp 𝕄 :=
  ((c : Thread nD τ).loc main_arg1) ↦[(wfR p).set]{fullShare} f
abbrev wbPt (c : Dev nD) (j : Fin 4) (f : (cc0_scratch3 : Ref sig .tc).ty.Contents (Elt F)) : sProp 𝕄 :=
  ((c : Thread nD τ).loc cc0_scratch3) ↦[(wbR j).set]{fullShare} f

/-! ## The schedule -/

def barPay (c : Dev nD) (d : Fin 15) : sProp 𝕄 := iprop(∃ f, cmPt (peer c d) d.succ f)
def sendPay (c : Dev nD) (r : Fin 15) : sProp 𝕄 := xsPt c (peer c r) (X8 m ρ c)
def recvPay (c : Dev nD) (r : Fin 15) : sProp 𝕄 :=
  iprop(∃ f, ⌜(csl r.succ).view.read (Elt F) f = blkX m ρ c r.succ⌝ ∗ cmPt c r.succ f)

def payAt (c : Dev nD) (d : Fin 15) : Option CI → sProp 𝕄
  | some none => barPay c d
  | some (some (false, r)) => sendPay m ρ c r
  | some (some (true, r)) => recvPay m ρ c r
  | none => iprop(emp)
def dutiesAt : Option CI → Finset (Fin 15)
  | some none => Finset.univ
  | some (some _) => {0}
  | none => ∅
def amountAt : Option CI → ℕ
  | some none => 1
  | _ => N

def ringRd : Rounds.Schedule (GSem nD τ sig) (Fin 15) 𝕄 where
  duties g r := if r = 0 ∧ g.1.2 = .tc then dutiesAt (role g.2) else ∅
  unitless _ := False
  amount g _ _ := amountAt (role g.2)
  payload g _ d := payAt m ρ g.1.1 d (role g.2)
  amount_pos g _ _ _ := by
    show 0 < amountAt (role g.2)
    unfold amountAt
    split
    · exact Nat.one_pos
    · exact N_pos

instance ringRd_payload_storable (g : GSem nD τ sig) (r : ℕ) (d : Fin 15) :
    BI.Storable (upEmb : UEmb _ 𝕄) ((ringRd (F := F) m ρ).payload g r d) := by
  show BI.Storable upEmb (payAt m ρ g.1.1 d (role g.2))
  unfold payAt barPay sendPay recvPay
  split <;> infer_instance

section Sched
variable (c : Dev nD) (r : Fin 15)

theorem duties_bar : (ringRd (F := F) m ρ).duties (barCell c) 0 = Finset.univ := by
  dsimp only [ringRd]; rw [if_pos ⟨rfl, rfl⟩, role_bar]; rfl
theorem duties_send : (ringRd (F := F) m ρ).duties (sendCell c r) 0 = {0} := by
  dsimp only [ringRd]; rw [if_pos ⟨rfl, rfl⟩, role_send]; rfl
theorem duties_recv : (ringRd (F := F) m ρ).duties (recvCell c r) 0 = {0} := by
  dsimp only [ringRd]; rw [if_pos ⟨rfl, rfl⟩, role_recv]; rfl
theorem duties_later (g : GSem nD τ sig) : ∀ r, 1 ≤ r → (ringRd (F := F) m ρ).duties g r = ∅ :=
  fun r hr => by dsimp only [ringRd]; rw [if_neg fun h => by omega]

theorem amount_bar (d : Fin 15) : (ringRd (F := F) m ρ).amount (barCell c) 0 d = 1 := by
  dsimp only [ringRd]; rw [role_bar]; rfl
theorem amount_send (d : Fin 15) : (ringRd (F := F) m ρ).amount (sendCell c r) 0 d = N := by
  dsimp only [ringRd]; rw [role_send]; rfl
theorem amount_recv (d : Fin 15) : (ringRd (F := F) m ρ).amount (recvCell c r) 0 d = N := by
  dsimp only [ringRd]; rw [role_recv]; rfl

theorem expect_bar : (ringRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (ringRd (F := F) m ρ).expect (sendCell c r) 0 = N := by
  unfold Schedule.expect Schedule.amountOf; rw [duties_send, Finset.sum_singleton, amount_send]
theorem expect_recv : (ringRd (F := F) m ρ).expect (recvCell c r) 0 = N := by
  unfold Schedule.expect Schedule.amountOf; rw [duties_recv, Finset.sum_singleton, amount_recv]

theorem payload_bar (d : Fin 15) : (ringRd (F := F) m ρ).payload (barCell c) 0 d = barPay c d := by
  dsimp only [ringRd]; rw [role_bar]; rfl
theorem payload_send (d : Fin 15) : (ringRd (F := F) m ρ).payload (sendCell c r) 0 d = sendPay m ρ c r := by
  dsimp only [ringRd]; rw [role_send]; rfl
theorem payload_recv (d : Fin 15) : (ringRd (F := F) m ρ).payload (recvCell c r) 0 d = recvPay m ρ c r := by
  dsimp only [ringRd]; rw [role_recv]; rfl

theorem rest_bar : bigSep ((ringRd (F := F) m ρ).duties (barCell c) 0 \ ∅) (fun d => (ringRd (F := F) m ρ).payload (barCell c) 0 d)
    = bigSep Finset.univ (fun d => barPay c d) := by
  rw [Finset.sdiff_empty, duties_bar]
  exact congrArg (bigSep Finset.univ) (funext fun d => payload_bar m ρ c d)
theorem rest_send : bigSep ((ringRd (F := F) m ρ).duties (sendCell c r) 0 \ ∅) (fun d => (ringRd (F := F) m ρ).payload (sendCell c r) 0 d)
    = sendPay m ρ c r := by
  rw [Finset.sdiff_empty, duties_send, bigSep_singleton, payload_send]
theorem rest_recv : bigSep ((ringRd (F := F) m ρ).duties (recvCell c r) 0 \ ∅) (fun d => (ringRd (F := F) m ρ).payload (recvCell c r) 0 d)
    = recvPay m ρ c r := by
  rw [Finset.sdiff_empty, duties_recv, bigSep_singleton, payload_recv]

end Sched

/-! ## What each core owes; the levels -/

/-- The copies still to start when `n` have been, and the signals still to send when `n` have been. -/
def OR (c : Dev nD) (n : ℕ) : CellTallies nD τ sig Unit :=
  ∑ r : Fin 15, if n ≤ r.val then tallyAt (recvCell (peer c r) r) () N else 0
def OB (c : Dev nD) (n : ℕ) : CellTallies nD τ sig Unit :=
  ∑ r : Fin 15, if n ≤ r.val then tallyAt (barCell (peer c r)) () 1 else 0
def O₀ (c : Dev nD) : CellTallies nD τ sig Unit := OR c 0 + OB c 0

theorem sum_from {M : Type _} [AddCommMonoid M] {n : ℕ} (f : Fin n → M) (r : Fin n) :
    (∑ x : Fin n, if r.val ≤ x.val then f x else 0) = (∑ x : Fin n, if r.val + 1 ≤ x.val then f x else 0) + f r := by
  rw [← Finset.sum_erase_add Finset.univ (fun x : Fin n => if r.val ≤ x.val then f x else 0) (Finset.mem_univ r), if_pos le_rfl,
    ← Finset.sum_erase_add Finset.univ (fun x : Fin n => if r.val + 1 ≤ x.val then f x else 0) (Finset.mem_univ r),
    if_neg (by omega : ¬ r.val + 1 ≤ r.val), add_zero]
  congr 1
  refine Finset.sum_congr rfl fun x hx => ?_
  have hne : x.val ≠ r.val := fun e => Finset.ne_of_mem_erase hx (Fin.ext e)
  by_cases h : r.val ≤ x.val
  · rw [if_pos h, if_pos (by omega)]
  · rw [if_neg h, if_neg (by omega)]

theorem OR_step (c : Dev nD) (r : Fin 15) : OR c r.val = OR c (r.val + 1) + tallyAt (recvCell (peer c r) r) () N := sum_from _ r
theorem OB_step (c : Dev nD) (r : Fin 15) : OB c r.val = OB c (r.val + 1) + tallyAt (barCell (peer c r)) () 1 := sum_from _ r
theorem OR_end (c : Dev nD) : OR c 15 = 0 := Finset.sum_eq_zero fun r _ => if_neg (by omega)
theorem OB_end (c : Dev nD) : OB c 15 = 0 := Finset.sum_eq_zero fun r _ => if_neg (by omega)

def L (g : GSem nD τ sig) : Finset Unit := if g.1.2 = .tc then {()} else ∅
/-- Barrier cells at 1, receive cells at 2, everything else at 0. -/
def lvAt : Option CI → ℕ
  | some none => 1
  | some (some (true, _)) => 2
  | _ => 0
def lv (g : GSem nD τ sig) (_ : Unit) : ℕ := lvAt (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]; rfl
theorem lv_recv (c : Dev nD) (r : Fin 15) (u : Unit) : lv (recvCell c r) u = 2 := by unfold lv; rw [role_recv]; rfl

theorem pos_sum {ι : Type} (S : Finset ι) (f : ι → CellTallies nD τ sig Unit) {g : GSem nD τ sig} {u : Unit}
    (h : 0 < (∑ x ∈ S, f x) g u) : ∃ x ∈ S, 0 < f x g u := by
  classical
  induction S using Finset.induction_on with
  | empty => rw [Finset.sum_empty] at h; exact absurd h (Nat.lt_irrefl 0)
  | insert a S ha ih =>
    rw [Finset.sum_insert ha, Pi.add_apply, Finsupp.add_apply] at h
    rcases Nat.eq_zero_or_pos (f a g u) with h0 | h0
    · rw [h0, zero_add] at h
      obtain ⟨x, hx, hp⟩ := ih h
      exact ⟨x, Finset.mem_insert_of_mem hx, hp⟩
    · exact ⟨a, Finset.mem_insert_self _ _, h0⟩

theorem pos_tallyAt {g' g : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem pos_ite {p : Prop} [Decidable p] {f : CellTallies nD τ sig Unit} {g : GSem nD τ sig} {u : Unit}
    (h : 0 < (if p then f else 0 : CellTallies nD τ sig Unit) g u) : 0 < f g u := by
  split at h
  · exact h
  · exact absurd h (Nat.lt_irrefl 0)

theorem OR_pos {c : Dev nD} {n : ℕ} {g : GSem nD τ sig} {u : Unit} (h : 0 < OR c n g u) : ∃ r, g = recvCell (peer c r) r := by
  obtain ⟨r, -, hr⟩ := pos_sum _ _ h
  exact ⟨r, pos_tallyAt (pos_ite hr)⟩
theorem OB_pos {c : Dev nD} {n : ℕ} {g : GSem nD τ sig} {u : Unit} (h : 0 < OB c n g u) : ∃ r, g = barCell (peer c r) := by
  obtain ⟨r, -, hr⟩ := pos_sum _ _ h
  exact ⟨r, pos_tallyAt (pos_ite hr)⟩

theorem O₀_pos {c : Dev nD} {g : GSem nD τ sig} {u : Unit} (h : 0 < O₀ c g u) :
    (∃ r, g = recvCell (peer c r) r) ∨ (∃ r, g = barCell (peer c r)) := by
  unfold O₀ at h
  rw [Pi.add_apply, Finsupp.add_apply] at h
  rcases Nat.eq_zero_or_pos (OR c 0 g u) with h0 | h0
  · rw [h0, zero_add] at h; exact Or.inr (OB_pos h)
  · exact Or.inl (OR_pos h0)

omit [FloatOps F] in
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by
        rw [Finset.mem_singleton.mp hp]
        show lvAt (role (.dma q)) ≤ 0
        rw [hq]; exact le_rfl)
      (fun g u hg => by
        rcases O₀_pos hg with ⟨r, rfl⟩ | ⟨r, rfl⟩
        · rw [lv_recv]; decide
        · rw [lv_bar]; decide)
  · rw [MayWait_zero]; iintro -; iempintro

omit [FloatOps F] in
/-- At its barrier wait a device owes its copies only: receive cells, above its barrier cell. -/
theorem mayWait_bar (c : Dev nD) :
    (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨r, rfl⟩ := OR_pos hg; exact Finset.mem_singleton_self _)
    (fun p hp => by rw [Finset.mem_singleton.mp hp]; exact (lv_bar c ()).le)
    (fun g u hg => by obtain ⟨r, rfl⟩ := OR_pos hg; rw [lv_recv]; decide)

end Cert.KernelIdealProof
-- ==== Proof.KernelIdealSteps.lean ====
/-
# 01_k — the steps of the loops

What one step of each loop does to what the device holds, and the loops by induction.
-/
module

public import proofs.«01_k».proof.Proof.KernelIdealRounds

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `P` to `Q`. -/
abbrev WP (c : Dev nD) (P : PR F) (Q : PUnit → sProp 𝕄) : sProp 𝕄 :=
  wp frame (wpE (defs₀ (F := F)) 𝒱₀ (c : Thread nD τ) none) Set.univ P Q

/-- The piece `P` of the program takes `A` to `B`. -/
def Step (c : Dev nD) (A B : sProp 𝕄) (P : PR F → PR F) : Prop :=
  ∀ (k : PR F) (Q : PUnit → sProp 𝕄), A ⊢ iprop((B -∗ WP c k Q) -∗ WP c (P k) Q)

/-- A loop whose step `r` takes `P r` to `P (r + 1)` takes `P 0` to `P N`. -/
theorem steps_of {c : Dev nD} {N : ℕ} (P : ℕ → sProp 𝕄) (step : Fin N → PR F → PR F)
    (h : ∀ r : Fin N, Step c (P r.val) (P (r.val + 1)) (step r)) :
    ∀ (n : ℕ) (hn : n ≤ N), Step c (P (N - n)) (P N) (steps step n hn)
  | 0, _ => fun k Q => by
    iintro HA Hk
    iapply Hk
    iexact HA
  | n + 1, hn => fun k Q => by
    iintro HA Hk
    iapply (h ⟨N - (n + 1), _⟩ (steps step n (Nat.le_of_succ_le hn) k) Q) $$ HA
    iintro HB
    iapply (steps_of P step h n (Nat.le_of_succ_le hn) k Q) $$ [HB]
    · rw [show N - n = N - (n + 1) + 1 by omega]
      iexact HB
    iexact Hk

theorem loop_of {c : Dev nD} {N : ℕ} (P : ℕ → sProp 𝕄) (step : Fin N → PR F → PR F)
    (h : ∀ r : Fin N, Step c (P r.val) (P (r.val + 1)) (step r)) : Step c (P 0) (P N) (steps step N le_rfl) := by
  have := steps_of P step h N le_rfl
  rwa [Nat.sub_self] at this

/-! ## Families of resources of which some have been used -/

omit [FloatOps F] in
theorem family_one {I : Type} [Fintype I] [DecidableEq I] (a : I) (Φ Ψ : I → sProp 𝕄) (h : ∀ i, i ≠ a → Φ i = Ψ i) :
    ∃ R : sProp 𝕄, bigSep Finset.univ Φ = iprop(Φ a ∗ R) ∧ bigSep Finset.univ Ψ = iprop(Ψ a ∗ R) :=
  ⟨bigSep (Finset.univ.erase a) Φ, bigSep_univ_at Φ a, by
    rw [bigSep_univ_at Ψ a, bigSep_congr (Φ := Ψ) (Ψ := Φ) fun i hi => (h i (Finset.ne_of_mem_erase hi)).symm]⟩

omit [FloatOps F] in
theorem family_two {I : Type} [Fintype I] [DecidableEq I] (a b : I) (hab : b ≠ a) (Φ Ψ : I → sProp 𝕄) (h : ∀ i, i ≠ a → i ≠ b → Φ i = Ψ i) :
    ∃ R : sProp 𝕄, bigSep Finset.univ Φ = iprop(Φ a ∗ Φ b ∗ R) ∧ bigSep Finset.univ Ψ = iprop(Ψ a ∗ Ψ b ∗ R) := by
  refine ⟨bigSep ((Finset.univ.erase a).erase b) Φ, ?_, ?_⟩
  · rw [bigSep_univ_at Φ a, bigSep_erase (Finset.mem_erase.mpr ⟨hab, Finset.mem_univ b⟩) (Φ := Φ)]; rfl
  · rw [bigSep_univ_at Ψ a, bigSep_erase (Finset.mem_erase.mpr ⟨hab, Finset.mem_univ b⟩) (Φ := Ψ),
      bigSep_congr (Φ := Ψ) (Ψ := Φ) fun i hi =>
        (h i (Finset.ne_of_mem_erase (Finset.mem_of_mem_erase hi)) (Finset.ne_of_mem_erase hi)).symm]; rfl

/-- The first `n` members are as `B` says, the others as `A` says. -/
def stage {N : ℕ} (A B : Fin N → sProp 𝕄) (n : ℕ) : sProp 𝕄 :=
  bigSep Finset.univ fun x => if n ≤ x.val then A x else B x

omit [FloatOps F] in
theorem stage_step {N : ℕ} (A B : Fin N → sProp 𝕄) (r : Fin N) :
    ∃ R : sProp 𝕄, stage A B r.val = iprop(A r ∗ R) ∧ stage A B (r.val + 1) = iprop(B r ∗ R) := by
  obtain ⟨R, h1, h2⟩ := family_one r (fun x => if r.val ≤ x.val then A x else B x) (fun x => if r.val + 1 ≤ x.val then A x else B x)
    (fun x hx => by
      have hne : x.val ≠ r.val := fun e => hx (Fin.ext e)
      by_cases h : r.val ≤ x.val
      · rw [if_pos h, if_pos (by omega)]
      · rw [if_neg h, if_neg (by omega)])
  refine ⟨R, ?_, ?_⟩
  · unfold stage; rw [h1, if_pos le_rfl]
  · unfold stage; rw [h2, if_neg (by omega)]

omit [FloatOps F] in
theorem stage_zero {N : ℕ} (A B : Fin N → sProp 𝕄) : stage A B 0 = bigSep Finset.univ A :=
  bigSep_congr fun x _ => if_pos (Nat.zero_le _)
omit [FloatOps F] in
theorem stage_all {N : ℕ} (A B : Fin N → sProp 𝕄) : stage A B N = bigSep Finset.univ B :=
  bigSep_congr fun x _ => if_neg (by omega)

/-! ## What every device knows of every cell -/

omit [FloatOps F] in
theorem elim_one {I : Type} [Fintype I] [DecidableEq I] (Φ : I → sProp 𝕄) (i : I) : iprop(bigSep Finset.univ Φ) ⊢ Φ i :=
  bigSep_elim (Finset.mem_univ i)

def recs (K : Dev nD × CI → ℕ) : sProp 𝕄 :=
  iprop((bigSep Finset.univ fun ci : Dev nD × CI => cellInv ER (ringRd m ρ) (K ci) (kcell ci))
    ∗ bigSep Finset.univ fun ci : Dev nD × CI => reached ER (kcell ci) 0)

instance recs_persistent (K : Dev nD × CI → ℕ) : BI.Persistent (recs m ρ K) := by unfold recs; infer_instance

theorem inv_at (K : Dev nD × CI → ℕ) (ci : Dev nD × CI) : recs m ρ K ⊢ cellInv ER (ringRd m ρ) (K ci) (kcell ci) := by
  unfold recs
  iintro ⟨H, -⟩
  iapply (elim_one (fun ci : Dev nD × CI => (cellInv ER (ringRd m ρ) (K ci) (kcell ci) : sProp 𝕄)) ci)
  iexact H
theorem reached_at (K : Dev nD × CI → ℕ) (ci : Dev nD × CI) : recs m ρ K ⊢ reached ER (kcell ci) 0 := by
  unfold recs
  iintro ⟨-, H⟩
  iapply (elim_one (fun ci : Dev nD × CI => (reached ER (kcell ci) 0 : sProp 𝕄)) ci)
  iexact H

section Loops
variable (K : Dev nD × CI → ℕ) (c : Dev nD)

/-! ## The signals -/

/-- What the signal of offset `r + 1` uses: its duty's token, and the slot it hands over. -/
def sigRes (r : Fin 15) : sProp 𝕄 :=
  iprop(dutyTok ER (barCell (peer c r)) 0 r.rev ∗ ∃ f, cmPt c r.rev.succ f)

def PS (n : ℕ) : sProp 𝕄 :=
  iprop(recs m ρ K ∗ (∃ W, owes (c : Thread nD τ) (OR c 0 + OB c n) W) ∗ stage (sigRes c) (fun _ => iprop(emp)) n)

theorem sig_one (r : Fin 15) : Step c (PS m ρ K c r.val) (PS m ρ K c (r.val + 1)) (sigStep c r) := by
  intro k Q
  unfold PS sigStep
  rw [sigDev_eq]
  obtain ⟨R, h1, h2⟩ := stage_step (sigRes (F := F) c) (fun _ => iprop(emp)) r
  rw [h1, h2]
  unfold sigRes
  iintro ⟨#HR, ⟨%W, HO⟩, ⟨Htok, Hslot⟩, Hrest⟩ Hk
  iapply (Rounds.wp_signal 𝒱₀ ER (ringRd m ρ) (c : Thread nD τ) none (dst := (peer c r : Thread nD τ)) (κ := K (peer c r, none))
      (r := 0) (d := r.rev) (k' := 1) (by rw [duties_bar]; exact Finset.mem_univ _) (amount_bar m ρ (peer c r) r.rev) ()
      (OR c 0 + OB c (r.val + 1))
      (show OR c 0 + OB c r.val = OR c 0 + OB c (r.val + 1) + tallyAt (barCell (peer c r)) () 1 by rw [OB_step, add_assoc])) $$ [HO Htok Hslot]
  · isplitr; · iapply (inv_at m ρ K (peer c r, none)); iexact HR
    isplitl [HO]; · iexact HO
    isplitl [Htok]; · iexact Htok
    isplitl [Hslot]
    · rw [payload_bar]; unfold barPay; rw [peer_rev]; iexact Hslot
    iapply (reached_at m ρ K (peer c r, none)); iexact HR
  iintro HO
  iapply Hk
  isplitr; · iexact HR
  isplitl [HO]; · iexists W; iexact HO
  isplitr; · iempintro
  iexact Hrest

/-! ## The copies -/

/-- What the copy of offset `r + 1` uses: its two duties' tokens, the rows it reads and the peer's slot it writes. -/
def cpyRes (r : Fin 15) : sProp 𝕄 :=
  iprop(dutyTok ER (sendCell c r) 0 0 ∗ dutyTok ER (recvCell (peer c r) r) 0 0 ∗ xsPt c (peer c r) (X8 m ρ c) ∗ barPay c r)
/-- What it leaves: the credit its wait spends. -/
def cpyOut (r : Fin 15) : sProp 𝕄 := cred (tallyAt (sendCell c r) () N)

def PC (n : ℕ) : sProp 𝕄 :=
  iprop(recs m ρ K ∗ (∃ W, owes (c : Thread nD τ) (OR c n) W) ∗ stage (cpyRes m ρ c) (cpyOut c) n)

omit [FloatOps F] in
theorem unit_read_congr {off off' : Fin 2 → ℕ} (h : off = off') (i : _) (i' : _) (f : (cc0_scratch0 : Ref sig .tc).ty.Contents (Elt F)) :
    (xsM.slice (Rect.unit (s := S4096x256) off S256x256.size i) (fun _ => rfl)).view.read (Elt F) f
      = (xsM.slice (Rect.unit (s := S4096x256) off' S256x256.size i') (fun _ => rfl)).view.read (Elt F) f := by
  subst h; rfl
theorem unit_set_congr {s : Shape} {off off' size : Fin s.rank → ℕ} (h : off = off') (i : _) (i' : _) :
    (Rect.unit (s := s) off size i).set = (Rect.unit (s := s) off' size i').set := by
  subst h; rfl
theorem xsl_set (c : Dev nD) (r : Fin 15) : (xsl c r).view.set = (xsB (peer c r)).set :=
  (View.set_slice_whole _ _).trans (unit_set_congr (off1_eq c r) _ _)

omit [FloatOps F] in
theorem xsl_pt (r : Fin 15) (f : (cc0_scratch0 : Ref sig .tc).ty.Contents (Elt F)) :
    (((xsl c r).view.loc (c : Thread nD τ) ↦[(xsl c r).view.set]{fullShare} f) : sProp 𝕄) = xsPt c (peer c r) f := by
  show (((c : Thread nD τ).loc cc0_scratch0) ↦[(xsl c r).view.set]{fullShare} f : sProp 𝕄) = _
  rw [xsl_set]
omit [FloatOps F] in
theorem csl_pt (j : Fin 16) (f : (cc0_scratch1 : Ref sig .tc).ty.Contents (Elt F)) :
    (((csl j).view.loc (c : Thread nD τ) ↦[(csl j).view.set]{fullShare} f) : sProp 𝕄) = cmPt c j f := by
  show (((c : Thread nD τ).loc cc0_scratch1) ↦[(csl j).view.set]{fullShare} f : sProp 𝕄) = _
  rw [csl_set]

theorem blk_sent (r : Fin 15) : (xsl c r).view.read (Elt F) (X8 m ρ c) = blkX m ρ (peer c r) r.succ := by
  unfold blkX
  rw [peer_sub]
  exact unit_read_congr (off1_eq c r) _ _ _

omit [FloatOps F] in
theorem credit_csl (r : Fin 15) : (csl r.succ).view.amount (.dma (recvS r.succ)) = N := rfl

theorem send_pay (r : Fin 15) :
    ((xsl c r).view.loc (c : Thread nD τ) ↦[(xsl c r).view.set]{fullShare} (X8 m ρ c) : sProp 𝕄)
      ⊢ (ringRd m ρ).payload (sendCell c r) 0 0 :=
  (Entails.of_eq (xsl_pt c r (X8 m ρ c))).trans (Entails.of_eq (payload_send m ρ c r 0).symm)

theorem recv_pay (r : Fin 15) (fn : (cc0_scratch1 : Ref sig .tc).ty.Contents (Elt F)) :
    ((csl r.succ).view.loc (peer c r : Thread nD τ) ↦[(csl r.succ).view.set]{fullShare}
        ((csl r.succ).view.write (Elt F) fn ((xsl c r).view.read (Elt F) (X8 m ρ c)) Finset.univ) : sProp 𝕄)
      ⊢ (ringRd m ρ).payload (recvCell (peer c r) r) 0 0 := by
  rw [payload_recv, csl_pt]
  unfold recvPay
  iintro H
  iexists _
  isplitr
  rotate_left
  · iexact H
  · ipureintro
    rw [View.read_write_univ]
    exact blk_sent m ρ c r

set_option maxHeartbeats 400000 in
/-- The copy, addressed to `n = peer c r` (substituted, not rewritten). -/
theorem wp_copy (r : Fin 15) (n : Dev nD) (hn : n = peer c r) (fn : (cc0_scratch1 : Ref sig .tc).ty.Contents (Elt F)) (W : Waits sig Unit)
    (k : PR F) (Q : PUnit → sProp 𝕄) :
    iprop(cellInv ER (ringRd m ρ) (K (c, some (false, r))) (sendCell c r) ∗ cellInv ER (ringRd m ρ) (K (peer c r, some (true, r))) (recvCell (peer c r) r)
        ∗ xsPt c (peer c r) (X8 m ρ c) ∗ cmPt (peer c r) r.succ fn
        ∗ owes (c : Thread nD τ) (OR c r.val) W
        ∗ dutyTok ER (sendCell c r) 0 0 ∗ reached ER (sendCell c r) 0
        ∗ dutyTok ER (recvCell (peer c r) r) 0 0 ∗ reached ER (recvCell (peer c r) r) 0)
      ⊢ iprop(((cred (tallyAt (sendCell c r) () N) ∗ owes (c : Thread nD τ) (OR c (r.val + 1)) W) -∗ WP c k Q)
          -∗ WP c (.op (.enqueueDma (xsl c r) (.remote (Dev.tc n) (csl r.succ) (.dma (sendS r.succ))) (.dma (recvS r.succ))
                (words_xs c r) (words_cs r.succ) ⟨⟨rfl, Or.inl rfl⟩, trivial⟩) fun _ => k) Q) := by
  subst hn
  rw [← xsl_pt c r (X8 m ρ c), ← csl_pt (peer c r) r.succ fn]
  exact Rounds.wp_send_pointsTo 𝒱₀ ER (ringRd m ρ) (c : Thread nD τ) none (c' := (peer c r : Thread nD τ)) (src := xsl c r) (dst := csl r.succ) (hsc := rfl)
    (sS := .dma (sendS r.succ)) (sem := .dma (recvS r.succ)) (hsrc := words_xs c r) (hdst := words_cs r.succ) (k := fun _ => k) (Q := Q)
    (κ₁ := K (c, some (false, r))) (κ₂ := K (peer c r, some (true, r))) (r₁ := 0) (r₂ := 0) (d₁ := 0) (d₂ := 0) (fd := fn)
    (by rw [duties_send]; exact Finset.mem_singleton_self _) (by rw [duties_recv]; exact Finset.mem_singleton_self _)
    () () N (credit_csl r) (amount_send m ρ c r 0) (amount_recv m ρ (peer c r) r 0) (OR c (r.val + 1)) (OR_step c r) (W := W)
    (send_pay m ρ c r)
    (recv_pay m ρ c r fn)

theorem cpy_one (r : Fin 15) : Step c (PC m ρ K c r.val) (PC m ρ K c (r.val + 1)) (cpyStep c r) := by
  intro k Q
  unfold PC cpyStep
  obtain ⟨R, h1, h2⟩ := stage_step (cpyRes m ρ c) (cpyOut (F := F) c) r
  rw [h1, h2]
  unfold cpyRes cpyOut barPay
  iintro ⟨#HR, ⟨%W, HO⟩, ⟨HtS, HtV, Hx, ⟨%fn, Hn⟩⟩, Hrest⟩ Hk
  iapply (wp_copy m ρ K c r (cpyDev c r) (cpyDev_eq c r) fn W k Q) $$ [HO HtS HtV Hx Hn]
  · isplitr; · iapply (inv_at m ρ K (c, some (false, r))); iexact HR
    isplitr; · iapply (inv_at m ρ K (peer c r, some (true, r))); iexact HR
    isplitl [Hx]; · iexact Hx
    isplitl [Hn]; · iexact Hn
    isplitl [HO]; · iexact HO
    isplitl [HtS]; · iexact HtS
    isplitr; · iapply (reached_at m ρ K (c, some (false, r))); iexact HR
    isplitl [HtV]; · iexact HtV
    iapply (reached_at m ρ K (peer c r, some (true, r))); iexact HR
  iintro ⟨Hc, HO⟩
  iapply Hk
  isplitr; · iexact HR
  isplitl [HO]; · iexists W; iexact HO
  isplitl [Hc] <;> iassumption

/-! ## The waits for the peers' copies, and the gathered input -/

def xtPt (f : (cc0_scratch2 : Ref sig .tc).ty.Contents (Elt F)) : sProp 𝕄 := ((c : Thread nD τ).loc cc0_scratch2) ↦{fullShare} f
def wfPt (f : (cc0_scratch4 : Ref sig .tc).ty.Contents (Elt F)) : sProp 𝕄 := ((c : Thread nD τ).loc cc0_scratch4) ↦{fullShare} f

/-- The gathered input, filled in at the block columns up to `n`. -/
def xtUpto (n : ℕ) : sProp 𝕄 :=
  iprop(∃ f, ⌜∀ j : Fin 16, j.val ≤ n → ((View.whole cc0_scratch2).slice (xtR j)).read (Elt F) f
      = shapeCast S256x256 (blkX m ρ c j) shapeCasts_S256x256_S256x256⌝ ∗ xtPt c f)

def rcvRes (r : Fin 15) : sProp 𝕄 := iprop(atPos ER (recvCell c r) 0 ∅ 0 ∗ cred (tallyAt (recvCell c r) () N))
def rcvOut (r : Fin 15) : sProp 𝕄 := iprop(semVal (recvCell c r) 0 ∗ ∃ f, cmPt c r.succ f)

def PX (n : ℕ) : sProp 𝕄 :=
  iprop(recs m ρ K ∗ (∃ W, owes (c : Thread nD τ) 0 W) ∗ stage (rcvRes c) (rcvOut c) n ∗ xtUpto m ρ c n)

omit [FloatOps F] in
theorem xt_disj (i j : Fin 16) (h : i ≠ j) :
    Disjoint ((View.whole cc0_scratch2).slice (xtR i)).set (((View.whole cc0_scratch2).slice (xtR j)).setOn Finset.univ) := by
  show Disjoint ((View.whole cc0_scratch2).slice (xtR i)).set ((View.whole cc0_scratch2).slice (xtR j)).set
  rw [View.set_slice_whole, View.set_slice_whole]
  exact xtR_disj i j h
omit [FloatOps F] in
theorem wf_disj (i j : Fin 16) (h : i ≠ j) :
    Disjoint ((View.whole cc0_scratch4).slice (wfR i)).set (((View.whole cc0_scratch4).slice (wfR j)).setOn Finset.univ) := by
  show Disjoint ((View.whole cc0_scratch4).slice (wfR i)).set ((View.whole cc0_scratch4).slice (wfR j)).set
  rw [View.set_slice_whole, View.set_slice_whole]
  exact wfR_disj i j h

theorem x_one (r : Fin 15) : Step c (PX m ρ K c r.val) (PX m ρ K c (r.val + 1)) (xWork c r) := by
  intro k Q
  unfold PX xWork
  obtain ⟨R, h1, h2⟩ := stage_step (rcvRes (F := F) c) (rcvOut (F := F) c) r
  rw [h1, h2]
  unfold rcvRes rcvOut xtUpto
  iintro ⟨#HR, ⟨%W, HO⟩, ⟨⟨Hat, Hc⟩, Hrest⟩, ⟨%f, %hf, Hxt⟩⟩ Hk
  ihave #HI := (inv_at m ρ K (c, some (true, r))) $$ HR
  iapply (Rounds.wp_wait_rest_token 𝒱₀ ER (ringRd m ρ) (c : Thread nD τ) none (κ := K (c, some (true, r)))
      (wpE_waitDma2_eq 𝒱₀ (c : Thread nD τ) none Set.univ) (Set.mem_univ _) () (O := 0) (W := W) (R := 0) (m := 0) (T := ∅)
      (by rw [Nat.zero_add]; exact (expect_recv m ρ c r).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_recv m ρ c r)) $$ Hpay
  unfold recvPay
  icases Hpay with ⟨%g, %hg, Hcm⟩
  imod (Rounds.cell_close ER (ringRd m ρ) (Set.mem_univ (K (c, some (true, r)))) (fun h => h) (R := 0 + 1) (duties_later m ρ (recvCell c r))) $$ [Hat] with Hz
  · isplitr; · iexact HI
    iexact Hat
  iapply (wp_load_rect 𝒱₀ (c : Thread nD τ) none Set.univ (m := cmM) (r := cmR r.succ) (S := (cmR r.succ).set)
    (subset_of_eq (View.set_slice_whole cc0_scratch1 (cmR r.succ)))) $$ Hcm; iintro Hcm
  unfold xtPt
  iapply (wp_load 𝒱₀ (c : Thread nD τ) none Set.univ (m := xtM) (Finset.subset_univ _)) $$ Hxt; iintro Hxt
  iapply (wp_store 𝒱₀ (c : Thread nD τ) none Set.univ (m := xtM) (r := xtR r.succ) (Mk := Finset.univ) (Finset.subset_univ _)) $$ Hxt; iintro Hxt
  iapply Hk
  isplitr; · iexact HR
  isplitl [HO]; · iexists _; iexact HO
  isplitl [Hz Hcm Hrest]
  · isplitl [Hz Hcm]
    · isplitl [Hz]; · iexact Hz
      iexists g; iexact Hcm
    iexact Hrest
  iexists _
  isplitr
  rotate_left
  · iexact Hxt
  ipureintro
  intro j hj
  by_cases hjr : j = r.succ
  · subst hjr
    refine (View.read_write_univ _ _).trans ?_
    rw [← hg]
    rfl
  · refine (View.read_slice_write_slice_of_disjoint (v := View.whole cc0_scratch2) (xtR j) (xtR r.succ) f _ Finset.univ (xt_disj j r.succ hjr)).trans ?_
    exact hf j (by have : j.val ≠ r.val + 1 := fun e => hjr (Fin.ext (by rw [e, Fin.val_succ])); omega)

/-! ## The waits for the own copies -/

def sndRes (r : Fin 15) : sProp 𝕄 := iprop(atPos ER (sendCell c r) 0 ∅ 0 ∗ cpyOut c r)
def sndOut (r : Fin 15) : sProp 𝕄 := iprop(semVal (sendCell c r) 0 ∗ xsPt c (peer c r) (X8 m ρ c))

def PZ (n : ℕ) : sProp 𝕄 :=
  iprop(recs m ρ K ∗ (∃ W, owes (c : Thread nD τ) 0 W) ∗ stage (sndRes c) (sndOut m ρ c) n)

theorem snd_one (r : Fin 15) : Step c (PZ m ρ K c r.val) (PZ m ρ K c (r.val + 1)) (sndStep c r) := by
  intro k Q
  unfold PZ sndStep
  obtain ⟨R, h1, h2⟩ := stage_step (sndRes (F := F) c) (sndOut m ρ c) r
  rw [h1, h2]
  unfold sndRes sndOut cpyOut
  iintro ⟨#HR, ⟨%W, HO⟩, ⟨Hat, Hc⟩, Hrest⟩ Hk
  ihave #HI := (inv_at m ρ K (c, some (false, r))) $$ HR
  iapply (Rounds.wp_wait_rest_token 𝒱₀ ER (ringRd m ρ) (c : Thread nD τ) none (κ := K (c, some (false, r)))
      (wpE_waitDma2_eq 𝒱₀ (c : Thread nD τ) none Set.univ) (Set.mem_univ _) () (O := 0) (W := W) (R := 0) (m := 0) (T := ∅)
      (by rw [Nat.zero_add]; exact (expect_send m ρ c r).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_send m ρ c r)) $$ Hpay
  unfold sendPay
  imod (Rounds.cell_close ER (ringRd m ρ) (Set.mem_univ (K (c, some (false, r)))) (fun h => h) (R := 0 + 1) (duties_later m ρ (sendCell c r))) $$ [Hat] with Hz
  · isplitr; · iexact HI
    iexact Hat
  iapply Hk
  isplitr; · iexact HR
  isplitl [HO]; · iexists _; iexact HO
  isplitl [Hz Hpay]
  · isplitl [Hz] <;> iassumption
  iexact Hrest

end Loops

end Cert.KernelIdealProof
-- ==== Proof.KernelIdealFetch.lean ====
/-
# 01_k — fetching and converting the weight

Device `c` fetches the sixteen row blocks of the weight through four slots, four copies ahead, and converts each.
-/
module

public import proofs.«01_k».proof.Proof.KernelIdealSteps
public import Idealize.ShloMosaic.Lib.Transfers

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-- The credit of one fetch. -/
def NW : ℕ := (wbs 0).view.dmaCredit
theorem NW_pos : 0 < NW := View.dmaCredit_pos _ (by decide)
theorem credit_wbs (j : Fin 4) : (wbs j).view.dmaCredit = NW := rfl

/-- A slot that no fetch uses. -/
def slotFree (j : Fin 4) : sProp 𝕄 := iprop(semVal ((c : Thread nD τ), .dma (wS j)) 0 ∗ ∃ f, wbPt c j f)

/-- What the `k`-th fetch leaves. -/
def landed (k : Fin 16) : sProp 𝕄 :=
  iprop((∃ f, ⌜(wbs (slot k)).view.read (Elt F) f = rawW m c k⌝ ∗ wbPt c (slot k) f) ∗ wPt c (c - k) (wOf m c))
def fetching (k : Fin 16) : sProp 𝕄 := Flight EC (c : Thread nD τ) (.dma (wS (slot k))) () NW (landed m c k)

omit [FloatOps F] in
theorem unit_read_congr_w {off off' : Fin 2 → ℕ} (h : off = off') (i : _) (i' : _) (f : (main_arg1 : Ref sig .tc).ty.Contents (Elt F)) :
    (wM.slice (Rect.unit (s := S4096x2048) off S256x2048.size i) (fun _ => rfl)).view.read (Elt F) f
      = (wM.slice (Rect.unit (s := S4096x2048) off' S256x2048.size i') (fun _ => rfl)).view.read (Elt F) f := by
  subst h; rfl
omit [FloatOps F] in
theorem blk_fetched (k : Fin 16) : (wsl c k).view.read (Elt F) (wOf m c) = rawW m c k :=
  unit_read_congr_w (off2_eq c k) _ _ _
theorem wsl_set (k : Fin 16) : (wsl c k).view.set = (wfR (c - k)).set :=
  (View.set_slice_whole _ _).trans (unit_set_congr (off2_eq c k) _ _)
omit [FloatOps F] in
theorem wsl_pt (k : Fin 16) (f : (main_arg1 : Ref sig .tc).ty.Contents (Elt F)) :
    (((wsl c k).view.loc (c : Thread nD τ) ↦[(wsl c k).view.set]{fullShare} f) : sProp 𝕄) = wPt c (c - k) f := by
  show (((c : Thread nD τ).loc main_arg1) ↦[(wsl c k).view.set]{fullShare} f : sProp 𝕄) = _
  rw [wsl_set]
omit [FloatOps F] in
theorem wbs_pt (j : Fin 4) (f : (cc0_scratch3 : Ref sig .tc).ty.Contents (Elt F)) :
    (((wbs j).view.loc (c : Thread nD τ) ↦[(wbs j).view.set]{fullShare} f) : sProp 𝕄) = wbPt c j f := by
  show (((c : Thread nD τ).loc cc0_scratch3) ↦[(wbs j).view.set]{fullShare} f : sProp 𝕄) = _
  rw [wbs_set]

theorem landed_intro (k : Fin 16) (fd : (cc0_scratch3 : Ref sig .tc).ty.Contents (Elt F)) :
    iprop(((wbs (slot k)).view.loc (c : Thread nD τ) ↦[(wbs (slot k)).view.set]{fullShare}
          ((wbs (slot k)).view.write (Elt F) fd ((wsl c k).view.read (Elt F) (wOf m c)) Finset.univ))
        ∗ ((wsl c k).view.loc (c : Thread nD τ) ↦[(wsl c k).view.set]{fullShare} (wOf m c)))
      ⊢ (landed m c k : sProp 𝕄) := by
  rw [wbs_pt, wsl_pt]
  unfold landed
  iintro ⟨Hb, Hw⟩
  isplitl [Hb]
  · iexists _
    isplitr
    rotate_left
    · iexact Hb
    · ipureintro
      rw [View.read_write_univ]
      exact blk_fetched m c k
  · iexact Hw

theorem issue_one (k : Fin 16) : Step c iprop(wPt c (c - k) (wOf m c) ∗ slotFree c (slot k)) (fetching m c k) (wIssue c k) := by
  intro K Q
  unfold wIssue fetching slotFree
  iintro ⟨Hw, Hz, ⟨%fd, Hb⟩⟩ Hk
  ihave Hw := (Entails.of_eq (wsl_pt c k (wOf m c)).symm) $$ Hw
  ihave Hb := (Entails.of_eq (wbs_pt c (slot k) fd).symm) $$ Hb
  iapply (wp_dmaLocal EC 𝒱₀ (c : Thread nD τ) none (src := wsl c k) (dst := wbs (slot k)) (sm := .dma (wS (slot k))) (via := .same)
      (k := fun _ => K) () NW (credit_wbs (slot k)) NW_pos (Sd := (wbs (slot k)).view.set) (Finset.Subset.refl _)) $$ [Hw Hb Hz]
  · isplitl [Hw]; · iexact Hw
    isplitl [Hb] <;> iassumption
  iintro HF
  iapply Hk
  iapply (Flight_mono EC (c : Thread nD τ) (landed_intro m c k fd)) $$ HF

/-- The converted weight, filled in at the first `n` row blocks. -/
def wfUpto (n : ℕ) : sProp 𝕄 :=
  iprop(∃ f, ⌜∀ k : Fin 16, k.val < n → ((View.whole cc0_scratch4).slice (wfR k)).read (Elt F) f = blkW m c k⌝ ∗ wfPt c f)

/-- One block's wait and conversion. -/
theorem work_one (k : Fin 16) :
    Step c iprop((∃ W, owes (c : Thread nD τ) 0 W) ∗ fetching m c k ∗ wfUpto m c k.val)
      iprop((∃ W, owes (c : Thread nD τ) 0 W) ∗ (wPt c (c - k) (wOf m c) ∗ slotFree c (slot k)) ∗ wfUpto m c (k.val + 1)) (wWork c k) := by
  intro K Q
  unfold wWork fetching slotFree wfUpto
  iintro ⟨⟨%W, HO⟩, HF, ⟨%f, %hf, Hwf⟩⟩ Hk
  iapply (wp_waitLocal EC 𝒱₀ (c : Thread nD τ) none () (credit_wbs (slot k)) (D := landed m c k)) $$ [HF HO]
  · isplitl [HF] <;> iassumption
  unfold landed
  iintro ⟨⟨⟨%g, %hg, Hb⟩, Hw⟩, Hz, HO⟩
  iapply (wp_load_rect 𝒱₀ (c : Thread nD τ) none Set.univ (m := wbM) (r := wbR (slot k)) (S := (wbR (slot k)).set)
    (subset_of_eq (View.set_slice_whole cc0_scratch3 (wbR (slot k))))) $$ Hb; iintro Hb
  unfold wfPt
  iapply (wp_load 𝒱₀ (c : Thread nD τ) none Set.univ (m := wfM) (Finset.subset_univ _)) $$ Hwf; iintro Hwf
  iapply (wp_store 𝒱₀ (c : Thread nD τ) none Set.univ (m := wfM) (r := wfR k) (Mk := Finset.univ) (Finset.subset_univ _)) $$ Hwf; iintro Hwf
  iapply Hk
  isplitl [HO]; · iexists _; iexact HO
  isplitl [Hw Hz Hb]
  · isplitl [Hw]; · iexact Hw
    isplitl [Hz]; · iexact Hz
    iexists g; iexact Hb
  iexists _
  isplitr
  rotate_left
  · iexact Hwf
  ipureintro
  intro j hj
  by_cases hjk : j = k
  · subst hjk
    refine (View.read_write_univ _ _).trans ?_
    unfold blkW
    rw [← hg]
    rfl
  · refine (View.read_slice_write_slice_of_disjoint (v := View.whole cc0_scratch4) (wfR j) (wfR k) f _ Finset.univ (wf_disj j k hjk)).trans ?_
    exact hf j (by have : j.val ≠ k.val := fun e => hjk (Fin.ext e); omega)

/-- A block that has been converted: its weight rows, and from the last four their slots. -/
def fetchDone (k : Fin 16) : sProp 𝕄 := iprop(wPt c (c - k) (wOf m c) ∗ if 12 ≤ k.val then slotFree c (slot k) else iprop(emp))

/-- The `k`-th block when the first `n` have been converted. -/
def fetchAt (n : ℕ) (k : Fin 16) : sProp 𝕄 :=
  if k.val < n then fetchDone m c k else if k.val < n + 4 then fetching m c k else wPt c (c - k) (wOf m c)

def PW (n : ℕ) : sProp 𝕄 :=
  iprop((∃ W, owes (c : Thread nD τ) 0 W) ∗ bigSep Finset.univ (fetchAt m c n) ∗ wfUpto m c n)

theorem fetch_one (k : Fin 16) : Step c (PW m c k.val) (PW m c (k.val + 1)) (wStep c k) := by
  intro K Q
  unfold PW wStep
  have hk0 : fetchAt m c k.val k = fetching m c k := by
    unfold fetchAt; rw [if_neg (by omega), if_pos (by omega)]
  have hk1 : fetchAt m c (k.val + 1) k = fetchDone m c k := by
    unfold fetchAt; rw [if_pos (by omega)]
  have hother : ∀ i : Fin 16, i.val ≠ k.val → i.val ≠ k.val + 4 → fetchAt m c k.val i = fetchAt m c (k.val + 1) i := by
    intro i h1 h2
    unfold fetchAt
    by_cases h : i.val < k.val
    · rw [if_pos h, if_pos (show i.val < k.val + 1 by omega)]
    · rw [if_neg h, if_neg (show ¬ i.val < k.val + 1 by omega)]
      by_cases h' : i.val < k.val + 4
      · rw [if_pos h', if_pos (show i.val < k.val + 1 + 4 by omega)]
      · rw [if_neg h', if_neg (show ¬ i.val < k.val + 1 + 4 by omega)]
  by_cases h : k.val + 4 < 16
  · rw [dif_pos h]
    have hj0 : fetchAt m c k.val ⟨k.val + 4, h⟩ = wPt c (c - ⟨k.val + 4, h⟩) (wOf m c) := by
      unfold fetchAt; rw [if_neg (by dsimp only; omega), if_neg (by dsimp only; omega)]
    have hj1 : fetchAt m c (k.val + 1) ⟨k.val + 4, h⟩ = fetching m c ⟨k.val + 4, h⟩ := by
      unfold fetchAt; rw [if_neg (by dsimp only; omega), if_pos (by dsimp only; omega)]
    have hs : slot ⟨k.val + 4, h⟩ = slot k := Fin.ext (by show (k.val + 4) % 4 = k.val % 4; omega)
    obtain ⟨R, h1, h2⟩ := family_two k ⟨k.val + 4, h⟩ (fun e => by have := congrArg Fin.val e; simp at this)
      (fetchAt m c k.val) (fetchAt m c (k.val + 1)) (fun i hi hi' => hother i (fun e => hi (Fin.ext e)) (fun e => hi' (Fin.ext e)))
    rw [h1, h2, hk0, hk1, hj0, hj1]
    unfold fetchDone
    rw [if_neg (by omega)]
    iintro ⟨HO, ⟨HF, Hw', HR⟩, Hwf⟩ Hk
    iapply (work_one m c k _ Q) $$ [HO HF Hwf]
    · isplitl [HO]; · iexact HO
      isplitl [HF] <;> iassumption
    iintro ⟨HO, ⟨Hw, Hs⟩, Hwf⟩
    iapply (issue_one m c ⟨k.val + 4, h⟩ K Q) $$ [Hw' Hs]
    · isplitl [Hw']; · iexact Hw'
      rw [hs]; iexact Hs
    iintro HF
    iapply Hk
    isplitl [HO]; · iexact HO
    isplitr [Hwf]
    · isplitl [Hw]
      · isplitl [Hw]; · iexact Hw
        iempintro
      isplitl [HF] <;> iassumption
    iexact Hwf
  · rw [dif_neg h]
    obtain ⟨R, h1, h2⟩ := family_one k (fetchAt m c k.val) (fetchAt m c (k.val + 1))
      (fun i hi => hother i (fun e => hi (Fin.ext e)) (by have := i.isLt; omega))
    rw [h1, h2, hk0, hk1]
    unfold fetchDone
    rw [if_pos (by omega)]
    iintro ⟨HO, ⟨HF, HR⟩, Hwf⟩ Hk
    iapply (work_one m c k _ Q) $$ [HO HF Hwf]
    · isplitl [HO]; · iexact HO
      isplitl [HF] <;> iassumption
    iintro ⟨HO, ⟨Hw, Hs⟩, Hwf⟩
    iapply Hk
    isplitl [HO]; · iexact HO
    isplitr [Hwf]
    · isplitl [Hw Hs]
      · isplitl [Hw] <;> iassumption
      iexact HR
    iexact Hwf

end Cert.KernelIdealProof
-- ==== Proof.KernelIdealPieces.lean ====
/-
# 01_k — the straight-line parts, and buffers as families of blocks
-/
module

public import proofs.«01_k».proof.Proof.KernelIdealFetch
public import Idealize.ShloMosaic.Lib.Ring

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-! ## The straight-line parts -/

section Parts
variable (K : Dev nD × CI → ℕ) (c : Dev nD)

/-- Buffer `b` of device `c`, whole, holding `f`. -/
abbrev wholePt (b : Ref sig .tc) (f : b.ty.Contents (Elt F)) : sProp 𝕄 := ((c : Thread nD τ).loc b) ↦{fullShare} f

/-- The wait for the fifteen signals: the peers' slots come with it. -/
theorem bar_one : Step c
    iprop(recs m ρ K ∗ levAts L lv ∗ (∃ W, owes (c : Thread nD τ) (OR c 0) W) ∗ atPos ER (barCell c) 0 ∅ 0 ∗ cred (tallyAt (barCell c) () 15))
    iprop((∃ W, owes (c : Thread nD τ) (OR c 0) W) ∗ (bigSep Finset.univ fun d => barPay c d) ∗ semVal (barCell c) 0)
    (fun k => .op (.semWait barS ((15 : ℕ) : ℤ)) fun _ => k) := by
  intro k Q
  iintro ⟨#HR, #Hlev, ⟨%W, HO⟩, Hat, Hc⟩ Hk
  ihave #HI := (inv_at m ρ K (c, none)) $$ HR
  iapply (Rounds.wp_wait_rest_token 𝒱₀ ER (ringRd m ρ) (c : Thread nD τ) none (κ := K (c, none))
      (wpE_semWait_eq 𝒱₀ (c : Thread nD τ) none Set.univ) (Set.mem_univ _) () (O := OR c 0) (W := W) (R := 0) (m := 0) (T := ∅)
      (by rw [Nat.zero_add]; exact (expect_bar m ρ c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hpay := (Entails.of_eq (rest_bar m ρ c)) $$ Hpay
  imod (Rounds.cell_close ER (ringRd m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hpay] <;> iassumption

theorem hz2 : (![0, 0] : Fin 2 → Nat) = fun _ => 0 := funext fun a => by fin_cases a <;> rfl

omit [FloatOps F] in
theorem read_x (f : (cc0_stg0_0 : Ref sig .tc).ty.Contents (Elt F)) : xM.view.readAt (Elt F) xR.toLoadRect f = f :=
  Memref.readAt_unit_zero (Elt F) cc0_stg0_0 hz2 _ f
omit [FloatOps F] in
theorem write_xs (f w : (cc0_scratch0 : Ref sig .tc).ty.Contents (Elt F)) :
    (xsM.access xR : View sig .tc _ _ _).write (Elt F) f w Finset.univ = w :=
  Memref.write_access_unit_zero_univ (Elt F) cc0_scratch0 hz2 _ f w
omit [FloatOps F] in
theorem write_o (f w : (cc0_stg3_0 : Ref sig .tc).ty.Contents (Elt F)) :
    (oM.access oR : View sig .tc _ _ _).write (Elt F) f w Finset.univ = w :=
  Memref.write_access_unit_zero_univ (Elt F) cc0_stg3_0 hz2 _ f w
omit [FloatOps F] in
theorem read_xt (f : (cc0_scratch2 : Ref sig .tc).ty.Contents (Elt F)) :
    xtM.view.readAt (Elt F) (Rect.unit (s := S256x4096) ![0, 0] S256x4096.size inb_S256x4096_S256x4096_0_0).toLoadRect f = f :=
  Memref.readAt_unit_zero (Elt F) cc0_scratch2 hz2 _ f
omit [FloatOps F] in
theorem read_wf (f : (cc0_scratch4 : Ref sig .tc).ty.Contents (Elt F)) :
    wfM.view.readAt (Elt F) (Rect.unit (s := S4096x2048) ![0, 0] S4096x2048.size inb_S4096x2048_S4096x2048_0_0).toLoadRect f = f :=
  Memref.readAt_unit_zero (Elt F) cc0_scratch4 hz2 _ f

theorem convert_one : Step c iprop(wholePt c cc0_stg0_0 (xstg m ρ c) ∗ ∃ f, wholePt c cc0_scratch0 f)
    iprop(wholePt c cc0_stg0_0 (xstg m ρ c) ∗ wholePt c cc0_scratch0 (X8 m ρ c)) convert := by
  intro k Q
  unfold convert
  iintro ⟨Hx, ⟨%f, Hs⟩⟩ Hk
  iapply (wp_load 𝒱₀ (c : Thread nD τ) none Set.univ (m := xM) (Finset.subset_univ _)) $$ Hx; iintro Hx
  iapply (wp_load 𝒱₀ (c : Thread nD τ) none Set.univ (m := xsM) (Finset.subset_univ _)) $$ Hs; iintro Hs
  iapply (wp_store 𝒱₀ (c : Thread nD τ) none Set.univ (m := xsM) (r := xR) (Mk := Finset.univ) (Finset.subset_univ _)) $$ Hs; iintro Hs
  rw [write_xs, read_x]
  iapply Hk
  isplitl [Hx]; · iexact Hx
  unfold X8
  iexact Hs

omit [FloatOps F] in
theorem own_read (f : (cc0_scratch0 : Ref sig .tc).ty.Contents (Elt F)) :
    (xsM.access (ownR c)).read (Elt F) f = (xsMb c).view.read (Elt F) f :=
  unit_read_congr (k0_off3_eq c) _ _ f
theorem own_set : (xsM.access (ownR c)).set = (xsB c).set :=
  (View.set_slice_whole _ _).trans (unit_set_congr (k0_off3_eq c) _ _)

theorem dev_sub_zero : ∀ c : Dev nD, c - (0 : Fin 16) = c := by decide

theorem own_one : Step c iprop(xsPt c c (X8 m ρ c) ∗ ∃ f, xtPt c f) iprop(xsPt c c (X8 m ρ c) ∗ xtUpto m ρ c 0) (ownWork c) := by
  intro k Q
  unfold ownWork xtUpto xtPt
  iintro ⟨Hx, ⟨%f, Ht⟩⟩ Hk
  iapply (wp_load_rect 𝒱₀ (c : Thread nD τ) none Set.univ (m := xsM) (r := ownR c) (S := (xsB c).set) (subset_of_eq (own_set c))) $$ Hx; iintro Hx
  iapply (wp_load 𝒱₀ (c : Thread nD τ) none Set.univ (m := xtM) (Finset.subset_univ _)) $$ Ht; iintro Ht
  iapply (wp_store 𝒱₀ (c : Thread nD τ) none Set.univ (m := xtM) (r := xtR 0) (Mk := Finset.univ) (Finset.subset_univ _)) $$ Ht; iintro Ht
  iapply Hk
  isplitl [Hx]; · iexact Hx
  iexists _
  isplitr
  rotate_left
  · iexact Ht
  ipureintro
  intro j hj
  obtain rfl : j = 0 := Fin.ext (by have : (0 : Fin 16).val = 0 := rfl; omega)
  refine (View.read_write_univ _ _).trans ?_
  rw [own_read]
  unfold blkX
  rw [dev_sub_zero]
  rfl

/-- Reading a scale. -/
theorem scale_one_x (f : (cc0_stg1_0 : Ref sig .tc).ty.Contents (Elt F)) (k : Elt F .f32 → PR F) (Q : PUnit → sProp 𝕄) :
    wholePt c cc0_stg1_0 f ⊢ iprop((wholePt c cc0_stg1_0 f -∗ WP c (k (f ix1)) Q)
      -∗ WP c ((smemLoad sxM (Rect.unit (s := S1) ![0] S1.size inb_S1_S1_0) numel1_S1 rfl).bind k) Q) := by
  have he : (sxM.access (Rect.unit (s := S1) ![0] S1.size inb_S1_S1_0)).read (Elt F) f (Shape.Idx.first (show 0 < S1.numel by rw [numel1_S1]; exact Nat.one_pos)) = f ix1 :=
    congrArg f (funext fun a => Fin.ext (by fin_cases a; rfl))
  rw [← he]
  exact wp_smemLoadElt 𝒱₀ (c : Thread nD τ) none Set.univ (m := sxM) (r := Rect.unit (s := S1) ![0] S1.size inb_S1_S1_0)
    (hw := View.loads_smem_one rfl numel1_S1) (k := k)
    (Finset.subset_univ _)
theorem scale_one_w (f : (cc0_stg2_0 : Ref sig .tc).ty.Contents (Elt F)) (k : Elt F .f32 → PR F) (Q : PUnit → sProp 𝕄) :
    wholePt c cc0_stg2_0 f ⊢ iprop((wholePt c cc0_stg2_0 f -∗ WP c (k (f ix1)) Q)
      -∗ WP c ((smemLoad swM (Rect.unit (s := S1) ![0] S1.size inb_S1_S1_0) numel1_S1 rfl).bind k) Q) := by
  have he : (swM.access (Rect.unit (s := S1) ![0] S1.size inb_S1_S1_0)).read (Elt F) f (Shape.Idx.first (show 0 < S1.numel by rw [numel1_S1]; exact Nat.one_pos)) = f ix1 :=
    congrArg f (funext fun a => Fin.ext (by fin_cases a; rfl))
  rw [← he]
  exact wp_smemLoadElt 𝒱₀ (c : Thread nD τ) none Set.univ (m := swM) (r := Rect.unit (s := S1) ![0] S1.size inb_S1_S1_0)
    (hw := View.loads_smem_one rfl numel1_S1) (k := k)
    (Finset.subset_univ _)

theorem multiply_one : Step c
    iprop(xtPt c (XT m ρ c) ∗ wfPt c (WF m c) ∗ wholePt c cc0_stg1_0 (sxstg m ρ c) ∗ wholePt c cc0_stg2_0 (swstg m ρ c) ∗ ∃ f, wholePt c cc0_stg3_0 f)
    iprop(xtPt c (XT m ρ c) ∗ wfPt c (WF m c) ∗ wholePt c cc0_stg1_0 (sxstg m ρ c) ∗ wholePt c cc0_stg2_0 (swstg m ρ c)
      ∗ wholePt c cc0_stg3_0 (outAt m ρ c)) multiply := by
  intro k Q
  unfold multiply xtPt wfPt
  iintro ⟨Ht, Hw, Hsx, Hsw, ⟨%f, Ho⟩⟩ Hk
  iapply (wp_load 𝒱₀ (c : Thread nD τ) none Set.univ (m := xtM) (Finset.subset_univ _)) $$ Ht; iintro Ht
  iapply (wp_load 𝒱₀ (c : Thread nD τ) none Set.univ (m := wfM) (Finset.subset_univ _)) $$ Hw; iintro Hw
  iapply (scale_one_x c _ _ Q) $$ Hsx; iintro Hsx
  iapply (scale_one_w c _ _ Q) $$ Hsw; iintro Hsw
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o, read_xt, read_wf]
  iapply Hk
  isplitl [Ht]; · iexact Ht
  isplitl [Hw]; · iexact Hw
  isplitl [Hsx]; · iexact Hsx
  isplitl [Hsw]; · iexact Hsw
  unfold outAt
  iexact Ho

end Parts

/-! ## Buffers as families of blocks -/

section Families
variable (c : Dev nD)

omit [FloatOps F] in
theorem family_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- The devices, from `c` on. -/
def around (c : Dev nD) : Fin 16 ≃ Dev nD where
  toFun j := c + j
  invFun p := p - c
  left_inv := by revert c; decide
  right_inv := by revert c; decide
/-- The blocks, from `c` back. -/
def back (c : Dev nD) : Fin 16 ≃ Fin 16 where
  toFun k := c - k
  invFun k := c - k
  left_inv := by revert c; decide
  right_inv := by revert c; decide
theorem around_zero : ∀ c : Dev nD, around c 0 = c := by decide

omit [FloatOps F] in
/-- The converted input, as the block of every device. -/
theorem xs_blocks (f : (cc0_scratch0 : Ref sig .tc).ty.Contents (Elt F)) :
    wholePt c cc0_scratch0 f = iprop(xsPt c c f ∗ bigSep Finset.univ fun r : Fin 15 => xsPt c (peer c r) f) := by
  have h := pointsTo_blocks (Ix := Unit) (Val := Elt F) (Name := ℕ) (U := UU) (Lvl := ℕ) (ℓ := (c : Thread nD τ).loc cc0_scratch0) (q := fullShare) (fun p : Dev nD => (xsB p).set)
    (fun p q h => xsB_disj p q h) xsB_cover f
  refine h.trans ?_
  rw [bigSep_univ_equiv (around c) (fun p : Dev nD => (xsPt c p f : sProp 𝕄)), family_succ]
  rw [around_zero]
  rfl

omit [FloatOps F] in
theorem cm_some (p : Fin 16) (f : (cc0_scratch1 : Ref sig .tc).ty.Contents (Elt F)) : cmPt c p f ⊢ (iprop(∃ f, cmPt c p f) : sProp 𝕄) := by
  iintro H
  iexists f
  iexact H
omit [FloatOps F] in
/-- The landing buffer, as its slots. -/
theorem cm_blocks (f : (cc0_scratch1 : Ref sig .tc).ty.Contents (Elt F)) :
    wholePt c cc0_scratch1 f ⊢ (iprop((∃ f, cmPt c 0 f) ∗ bigSep Finset.univ fun r : Fin 15 => iprop(∃ f, cmPt c r.succ f)) : sProp 𝕄) := by
  refine (Entails.of_eq (pointsTo_blocks (Ix := Unit) (Val := Elt F) (Name := ℕ) (U := UU) (Lvl := ℕ) (ℓ := (c : Thread nD τ).loc cc0_scratch1) (q := fullShare) (fun p : Fin 16 => (cmR p).set)
    (fun p q h => cmR_disj p q h) cmR_cover f)).trans ?_
  refine (bigSep_mono (Ψ := fun p : Fin 16 => (iprop(∃ f, cmPt c p f) : sProp 𝕄)) fun p _ => cm_some c p f).trans (Entails.of_eq (family_succ _))
omit [FloatOps F] in
theorem cm_join : iprop((∃ f, cmPt c 0 f) ∗ bigSep Finset.univ fun r : Fin 15 => iprop(∃ f, cmPt c r.succ f))
    ⊢ (iprop(∃ f, wholePt c cc0_scratch1 f) : sProp 𝕄) := by
  refine (Entails.of_eq (family_succ (fun p : Fin 16 => (iprop(∃ f, cmPt c p f) : sProp 𝕄))).symm).trans ?_
  by_cases hn : Nonempty ((cc0_scratch1 : Ref sig .tc).ty.Contents (Elt F))
  swap
  · rw [family_succ]
    iintro ⟨⟨%f, -⟩, -⟩
    exact absurd ⟨f⟩ hn
  obtain ⟨f₀⟩ := hn
  iintro H
  iapply (pointsTo_blocks_join_exists (Ix := Unit) (Val := Elt F) (Name := ℕ) (U := UU) (Lvl := ℕ) (ℓ := (c : Thread nD τ).loc cc0_scratch1) (q := fullShare) (fun p : Fin 16 => (cmR p).set)
    (fun p q h => cmR_disj p q h) cmR_cover f₀)
  iexact H

omit [FloatOps F] in
/-- The weight, as the row blocks in the order `c` reads them. -/
theorem w_blocks (f : (main_arg1 : Ref sig .tc).ty.Contents (Elt F)) :
    wholePt c main_arg1 f = bigSep Finset.univ fun k : Fin 16 => wPt c (c - k) f := by
  refine (pointsTo_blocks (Ix := Unit) (Val := Elt F) (Name := ℕ) (U := UU) (Lvl := ℕ) (ℓ := (c : Thread nD τ).loc main_arg1) (q := fullShare) (fun p : Fin 16 => (wfR p).set)
    (fun p q h => wfR_disj p q h) wfR_cover f).trans ?_
  exact bigSep_univ_equiv (back c) (fun p : Fin 16 => (wPt c p f : sProp 𝕄))

omit [FloatOps F] in
theorem wb_some (j : Fin 4) (f : (cc0_scratch3 : Ref sig .tc).ty.Contents (Elt F)) : wbPt c j f ⊢ (iprop(∃ f, wbPt c j f) : sProp 𝕄) := by
  iintro H
  iexists f
  iexact H
omit [FloatOps F] in
/-- The fetch buffer, as its slots. -/
theorem wb_blocks (f : (cc0_scratch3 : Ref sig .tc).ty.Contents (Elt F)) :
    wholePt c cc0_scratch3 f ⊢ (bigSep Finset.univ fun j : Fin 4 => iprop(∃ f, wbPt c j f) : sProp 𝕄) := by
  refine (Entails.of_eq (pointsTo_blocks (Ix := Unit) (Val := Elt F) (Name := ℕ) (U := UU) (Lvl := ℕ) (ℓ := (c : Thread nD τ).loc cc0_scratch3)
    (q := fullShare) (fun p : Fin 4 => (wbR p).set) (fun p q h => wbR_disj p q h) wbR_cover f)).trans ?_
  exact bigSep_mono (Ψ := fun j : Fin 4 => (iprop(∃ f, wbPt c j f) : sProp 𝕄)) fun p _ => wb_some c p f
omit [FloatOps F] in
theorem wb_join : (bigSep Finset.univ fun j : Fin 4 => iprop(∃ f, wbPt c j f)) ⊢ (iprop(∃ f, wholePt c cc0_scratch3 f) : sProp 𝕄) := by
  by_cases hn : Nonempty ((cc0_scratch3 : Ref sig .tc).ty.Contents (Elt F))
  swap
  · rw [bigSep_univ_at _ 0]
    iintro ⟨⟨%f, -⟩, -⟩
    exact absurd ⟨f⟩ hn
  obtain ⟨f₀⟩ := hn
  exact pointsTo_blocks_join_exists (Ix := Unit) (Val := Elt F) (Name := ℕ) (U := UU) (Lvl := ℕ) (ℓ := (c : Thread nD τ).loc cc0_scratch3)
    (q := fullShare) (fun p : Fin 4 => (wbR p).set) (fun p q h => wbR_disj p q h) wbR_cover f₀

end Families

end Cert.KernelIdealProof
-- ==== Proof.KernelIdealBody.lean ====
/-
# 01_k — the body

What a device starts the kernel with and what it leaves, and the kernel's run from the one to the other.
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first four fetches -/

section Issue
variable (c : Dev nD)

/-- The `k`-th block when the first `n ≤ 4` fetches have been started. -/
def issueAt (n : ℕ) (k : Fin 16) : sProp 𝕄 :=
  if k.val < 4 then (if k.val < n then fetching m c k else iprop(wPt c (c - k) (wOf m c) ∗ slotFree c (slot k))) else wPt c (c - k) (wOf m c)
def PI (n : ℕ) : sProp 𝕄 := bigSep Finset.univ (issueAt m c n)

theorem issue_step (k : Fin 16) (n : ℕ) (hn : k.val = n) (hk : k.val < 4) : Step c (PI m c n) (PI m c (n + 1)) (wIssue c k) := by
  subst hn
  intro K Q
  unfold PI
  obtain ⟨R, h1, h2⟩ := family_one k (issueAt m c k.val) (issueAt m c (k.val + 1)) (fun i hi => by
    have hne : i.val ≠ k.val := fun e => hi (Fin.ext e)
    unfold issueAt
    by_cases h4 : i.val < 4
    · rw [if_pos h4, if_pos h4]
      by_cases h : i.val < k.val
      · rw [if_pos h, if_pos (show i.val < k.val + 1 by omega)]
      · rw [if_neg h, if_neg (show ¬ i.val < k.val + 1 by omega)]
    · rw [if_neg h4, if_neg h4])
  rw [h1, h2]
  unfold issueAt
  rw [if_pos hk, if_pos hk, if_neg (by omega), if_pos (by omega)]
  iintro ⟨H, HR⟩ Hk
  iapply (issue_one m c k K Q) $$ H
  iintro HF
  iapply Hk
  isplitl [HF] <;> iassumption

omit [FloatOps F] in
theorem family16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem family4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem slots_first (Φ : Fin 4 → sProp 𝕄) :
    bigSep Finset.univ Φ ⊢ (bigSep Finset.univ fun k : Fin 16 => if k.val < 4 then Φ (slot k) else iprop(emp) : sProp 𝕄) := by
  rw [family16, family4]
  show iprop(Φ 0 ∗ Φ 1 ∗ Φ 2 ∗ Φ 3) ⊢ (iprop(Φ 0 ∗ Φ 1 ∗ Φ 2 ∗ Φ 3 ∗ emp ∗ emp ∗ emp ∗ emp ∗ emp ∗ emp ∗ emp ∗ emp ∗ emp ∗ emp ∗ emp ∗ emp) : sProp 𝕄)
  iintro ⟨H0, H1, H2, H3⟩
  isplitl [H0]; · iexact H0
  isplitl [H1]; · iexact H1
  isplitl [H2]; · iexact H2
  isplitl [H3]; · iexact H3
  repeat' isplitr
  all_goals iempintro
omit [FloatOps F] in
theorem slots_last (Φ : Fin 4 → sProp 𝕄) :
    (bigSep Finset.univ fun k : Fin 16 => if 12 ≤ k.val then Φ (slot k) else iprop(emp) : sProp 𝕄) ⊢ bigSep Finset.univ Φ := by
  rw [family16, family4]
  show (iprop(emp ∗ emp ∗ emp ∗ emp ∗ emp ∗ emp ∗ emp ∗ emp ∗ emp ∗ emp ∗ emp ∗ emp ∗ Φ 0 ∗ Φ 1 ∗ Φ 2 ∗ Φ 3) : sProp 𝕄) ⊢ iprop(Φ 0 ∗ Φ 1 ∗ Φ 2 ∗ Φ 3)
  iintro ⟨-, -, -, -, -, -, -, -, -, -, -, -, H⟩
  iexact H

theorem PI_zero : iprop(wholePt c main_arg1 (wOf m c) ∗ bigSep Finset.univ fun j : Fin 4 => slotFree c j) ⊢ (PI m c 0 : sProp 𝕄) := by
  refine (sep_mono_right (slots_first fun j => slotFree c j)).trans ?_
  rw [w_blocks, ← bigSep_sep']
  refine Entails.of_eq (bigSep_congr fun k _ => ?_)
  unfold issueAt
  by_cases h : k.val < 4
  · rw [if_pos h, if_pos h, if_neg (by omega)]
  · rw [if_neg h, if_neg h]; exact sep_emp_eq _

theorem PI_four : PI m c 4 = bigSep Finset.univ (fetchAt m c 0) := by
  refine bigSep_congr fun k _ => ?_
  unfold issueAt fetchAt
  rw [if_neg (by omega : ¬ k.val < 0)]
  by_cases h : k.val < 4
  · rw [if_pos h, if_pos h, if_pos (by omega)]
  · rw [if_neg h, if_neg (by omega)]

theorem fetched : bigSep Finset.univ (fetchAt m c 16)
    ⊢ (iprop(wholePt c main_arg1 (wOf m c) ∗ bigSep Finset.univ fun j : Fin 4 => slotFree c j) : sProp 𝕄) := by
  refine BIBase.Entails.trans ?_ (sep_mono_right (slots_last fun j => slotFree c j))
  rw [w_blocks, ← bigSep_sep']
  refine Entails.of_eq (bigSep_congr fun k _ => ?_)
  unfold fetchAt fetchDone
  rw [if_pos (by omega)]

theorem issue_all : Step c iprop(wholePt c main_arg1 (wOf m c) ∗ bigSep Finset.univ fun j : Fin 4 => slotFree c j)
    (bigSep Finset.univ (fetchAt m c 0)) (fun k => wIssue c 0 <| wIssue c 1 <| wIssue c 2 <| wIssue c 3 k) := by
  intro k Q
  iintro H Hk
  ihave H := (PI_zero m c) $$ H
  iapply (issue_step m c 0 0 rfl (by decide) _ Q) $$ H; iintro H
  iapply (issue_step m c 1 1 rfl (by decide) _ Q) $$ H; iintro H
  iapply (issue_step m c 2 2 rfl (by decide) _ Q) $$ H; iintro H
  iapply (issue_step m c 3 3 rfl (by decide) _ Q) $$ H; iintro H
  iapply Hk
  ihave H := (Entails.of_eq (PI_four m c)) $$ H
  iexact H

end Issue

/-! ## What a device starts with, and what it leaves -/

section State
variable (K : Dev nD × CI → ℕ) (c : Dev nD)

/-- Where it stands at its own cells; -/
def posRes : sProp 𝕄 :=
  iprop(atPos ER (barCell c) 0 ∅ 0 ∗ (bigSep Finset.univ fun r : Fin 15 => atPos ER (sendCell c r) 0 ∅ 0)
    ∗ bigSep Finset.univ fun r : Fin 15 => atPos ER (recvCell c r) 0 ∅ 0)
/-- the duties it pays; -/
def payToks : sProp 𝕄 :=
  iprop((bigSep Finset.univ fun r : Fin 15 => dutyTok ER (barCell (peer c r)) 0 r.rev)
    ∗ (bigSep Finset.univ fun r : Fin 15 => dutyTok ER (sendCell c r) 0 0)
    ∗ bigSep Finset.univ fun r : Fin 15 => dutyTok ER (recvCell (peer c r) r) 0 0)
/-- the credits its waits spend; -/
def credRes : sProp 𝕄 :=
  iprop(cred (tallyAt (barCell c) () 15) ∗ bigSep Finset.univ fun r : Fin 15 => cred (tallyAt (recvCell c r) () N))
/-- the semaphores no other device touches. -/
def ownZ : sProp 𝕄 :=
  iprop((bigSep Finset.univ fun j : Fin 4 => semVal ((c : Thread nD τ), .dma (wS j)) 0)
    ∗ semVal ((c : Thread nD τ), .dma (sendS 0)) 0 ∗ semVal ((c : Thread nD τ), .dma (recvS 0)) 0)
/-- The scratch buffers, at whatever they hold. -/
def scratch : sProp 𝕄 :=
  iprop((∃ f, wholePt c cc0_scratch0 f) ∗ (∃ f, wholePt c cc0_scratch1 f) ∗ (∃ f, wholePt c cc0_scratch2 f)
    ∗ (∃ f, wholePt c cc0_scratch3 f) ∗ (∃ f, wholePt c cc0_scratch4 f))

def ghost : sProp 𝕄 := iprop(recs m ρ K ∗ posRes c ∗ payToks c ∗ ownZ c)
def start : sProp 𝕄 := iprop((∃ K, ghost m ρ K c) ∗ credRes c ∗ levAts L lv ∗ wholePt c main_arg1 (wOf m c))

def Φ₀ : sProp 𝕄 := iprop(start m ρ c ∗ scratch c)
def Φ₁ : sProp 𝕄 :=
  iprop(wholePt c main_arg1 (wOf m c) ∗ semVal (barCell c) 0 ∗ (bigSep Finset.univ fun r : Fin 15 => semVal (sendCell c r) 0)
    ∗ (bigSep Finset.univ fun r : Fin 15 => semVal (recvCell c r) 0) ∗ ownZ c ∗ scratch c)

/-! ## The run -/

omit [FloatOps F] in
theorem slots_free : iprop((bigSep Finset.univ fun j : Fin 4 => semVal ((c : Thread nD τ), .dma (wS j)) 0) ∗ ∃ f, wholePt c cc0_scratch3 f)
    ⊢ (bigSep Finset.univ fun j : Fin 4 => slotFree c j : sProp 𝕄) := by
  unfold slotFree
  rw [bigSep_sep']
  iintro ⟨Hz, ⟨%f, Hb⟩⟩
  isplitl [Hz]; · iexact Hz
  iapply (wb_blocks c f)
  iexact Hb
omit [FloatOps F] in
theorem slots_back : (bigSep Finset.univ fun j : Fin 4 => slotFree c j : sProp 𝕄)
    ⊢ iprop((bigSep Finset.univ fun j : Fin 4 => semVal ((c : Thread nD τ), .dma (wS j)) 0) ∗ ∃ f, wholePt c cc0_scratch3 f) := by
  unfold slotFree
  rw [bigSep_sep']
  exact sep_mono_right (wb_join c)

omit [FloatOps F] in
theorem family_rev (Φ : Fin 15 → sProp 𝕄) : bigSep Finset.univ Φ = bigSep Finset.univ fun r : Fin 15 => Φ r.rev :=
  bigSep_univ_equiv Fin.revPerm Φ

/-- The handshake. -/
theorem signals : Step c
    iprop(recs m ρ K ∗ (∃ W, owes (c : Thread nD τ) (O₀ c) W) ∗ (bigSep Finset.univ fun r : Fin 15 => dutyTok ER (barCell (peer c r)) 0 r.rev)
      ∗ bigSep Finset.univ fun r : Fin 15 => iprop(∃ f, cmPt c r.succ f))
    iprop(∃ W, owes (c : Thread nD τ) (OR c 0) W) (steps (sigStep c) 15 le_rfl) := by
  intro k Q
  iintro ⟨HR, HO, Ht, Hs⟩ Hk
  iapply (loop_of (PS m ρ K c) (sigStep c) (sig_one m ρ K c) k Q) $$ [HR HO Ht Hs]
  · unfold PS
    rw [stage_zero]
    unfold sigRes O₀
    rw [bigSep_sep', ← family_rev fun r : Fin 15 => (iprop(∃ f, cmPt c r.succ f) : sProp 𝕄)]
    isplitl [HR]; · iexact HR
    isplitl [HO]; · iexact HO
    isplitl [Ht] <;> iassumption
  · unfold PS
    rw [OB_end, add_zero]
    iintro ⟨-, HO, -⟩
    iapply Hk
    iexact HO

/-- The copies out. -/
theorem copies : Step c
    iprop(recs m ρ K ∗ (∃ W, owes (c : Thread nD τ) (OR c 0) W) ∗ (bigSep Finset.univ fun r : Fin 15 => dutyTok ER (sendCell c r) 0 0)
      ∗ (bigSep Finset.univ fun r : Fin 15 => dutyTok ER (recvCell (peer c r) r) 0 0)
      ∗ (bigSep Finset.univ fun r : Fin 15 => xsPt c (peer c r) (X8 m ρ c)) ∗ bigSep Finset.univ fun r : Fin 15 => barPay c r)
    iprop((∃ W, owes (c : Thread nD τ) 0 W) ∗ bigSep Finset.univ fun r : Fin 15 => cpyOut c r) (steps (cpyStep c) 15 le_rfl) := by
  intro k Q
  iintro ⟨HR, HO, H1, H2, H3, H4⟩ Hk
  iapply (loop_of (PC m ρ K c) (cpyStep c) (cpy_one m ρ K c) k Q) $$ [HR HO H1 H2 H3 H4]
  · unfold PC
    rw [stage_zero]
    unfold cpyRes
    rw [bigSep_sep', bigSep_sep', bigSep_sep']
    isplitl [HR]; · iexact HR
    isplitl [HO]; · iexact HO
    isplitl [H1]; · iexact H1
    isplitl [H2]; · iexact H2
    isplitl [H3] <;> iassumption
  · unfold PC
    rw [OR_end, stage_all]
    iintro ⟨-, HO, H⟩
    iapply Hk
    isplitl [HO] <;> iassumption

/-- The copies in. -/
theorem receives : Step c
    iprop(recs m ρ K ∗ (∃ W, owes (c : Thread nD τ) 0 W) ∗ (bigSep Finset.univ fun r : Fin 15 => atPos ER (recvCell c r) 0 ∅ 0)
      ∗ (bigSep Finset.univ fun r : Fin 15 => cred (tallyAt (recvCell c r) () N)) ∗ xtUpto m ρ c 0)
    iprop((∃ W, owes (c : Thread nD τ) 0 W) ∗ (bigSep Finset.univ fun r : Fin 15 => semVal (recvCell c r) 0)
      ∗ (bigSep Finset.univ fun r : Fin 15 => iprop(∃ f, cmPt c r.succ f)) ∗ xtPt c (XT m ρ c)) (steps (xWork c) 15 le_rfl) := by
  intro k Q
  iintro ⟨HR, HO, H1, H2, Hxt⟩ Hk
  iapply (loop_of (PX m ρ K c) (xWork c) (x_one m ρ K c) k Q) $$ [HR HO H1 H2 Hxt]
  · unfold PX
    rw [stage_zero]
    unfold rcvRes
    rw [bigSep_sep']
    isplitl [HR]; · iexact HR
    isplitl [HO]; · iexact HO
    isplitl [H1 H2]
    · isplitl [H1] <;> iassumption
    iexact Hxt
  · unfold PX xtUpto
    rw [stage_all]
    unfold rcvOut
    rw [bigSep_sep']
    iintro ⟨-, HO, ⟨Hz, Hc⟩, ⟨%f, %hf, Hxt⟩⟩
    obtain rfl := eq_XT m ρ c f fun j => hf j (by omega)
    iapply Hk
    isplitl [HO]; · iexact HO
    isplitl [Hz]; · iexact Hz
    isplitl [Hc] <;> iassumption

/-- The fetches. -/
theorem fetches : Step c
    iprop((∃ W, owes (c : Thread nD τ) 0 W) ∗ bigSep Finset.univ (fetchAt m c 0) ∗ ∃ f, wfPt c f)
    iprop((∃ W, owes (c : Thread nD τ) 0 W) ∗ (wholePt c main_arg1 (wOf m c) ∗ bigSep Finset.univ fun j : Fin 4 => slotFree c j)
      ∗ wfPt c (WF m c)) (steps (wStep c) 16 le_rfl) := by
  intro k Q
  iintro ⟨HO, HF, ⟨%f, Hwf⟩⟩ Hk
  iapply (loop_of (PW m c) (wStep c) (fetch_one m c) k Q) $$ [HO HF Hwf]
  · unfold PW wfUpto
    isplitl [HO]; · iexact HO
    isplitl [HF]; · iexact HF
    iexists f
    isplitr
    · ipureintro; exact fun k hk => absurd hk (Nat.not_lt_zero _)
    iexact Hwf
  · unfold PW wfUpto
    iintro ⟨HO, HF, ⟨%f, %hf, Hwf⟩⟩
    obtain rfl := eq_WF m c f fun j => hf j j.isLt
    ihave HF := (fetched m c) $$ HF
    iapply Hk
    isplitl [HO]; · iexact HO
    isplitl [HF] <;> iassumption

/-- The copies out, waited for. -/
theorem sends : Step c
    iprop(recs m ρ K ∗ (∃ W, owes (c : Thread nD τ) 0 W) ∗ (bigSep Finset.univ fun r : Fin 15 => atPos ER (sendCell c r) 0 ∅ 0)
      ∗ bigSep Finset.univ fun r : Fin 15 => cpyOut c r)
    iprop((∃ W, owes (c : Thread nD τ) 0 W) ∗ (bigSep Finset.univ fun r : Fin 15 => semVal (sendCell c r) 0)
      ∗ bigSep Finset.univ fun r : Fin 15 => xsPt c (peer c r) (X8 m ρ c)) (steps (sndStep c) 15 le_rfl) := by
  intro k Q
  iintro ⟨HR, HO, H1, H2⟩ Hk
  iapply (loop_of (PZ m ρ K c) (sndStep c) (snd_one m ρ K c) k Q) $$ [HR HO H1 H2]
  · unfold PZ
    rw [stage_zero]
    unfold sndRes
    rw [bigSep_sep']
    isplitl [HR]; · iexact HR
    isplitl [HO]; · iexact HO
    isplitl [H1] <;> iassumption
  · unfold PZ
    rw [stage_all]
    unfold sndOut
    rw [bigSep_sep']
    iintro ⟨-, HO, Hz, Hx⟩
    iapply Hk
    isplitl [HO]; · iexact HO
    isplitl [Hz] <;> iassumption

theorem wp_done (Q : PUnit → sProp 𝕄) : Q ⟨⟩ ⊢ WP c (.ret ⟨⟩) Q := by
  unfold WP
  rw [wp_ret]
  iintro H
  imodintro
  iexact H

/-- The kernel on device `c`. -/
theorem run_body (Q : PUnit → sProp 𝕄) :
    iprop(Φ₀ m ρ c ∗ (∃ W, owes (c : Thread nD τ) (O₀ c) W) ∗ wholePt c cc0_stg0_0 (xstg m ρ c) ∗ wholePt c cc0_stg1_0 (sxstg m ρ c)
        ∗ wholePt c cc0_stg2_0 (swstg m ρ c) ∗ (∃ f, wholePt c cc0_stg3_0 f))
      ⊢ iprop((Φ₁ m c ∗ (∃ W, owes (c : Thread nD τ) 0 W) ∗ wholePt c cc0_stg0_0 (xstg m ρ c) ∗ wholePt c cc0_stg1_0 (sxstg m ρ c)
          ∗ wholePt c cc0_stg2_0 (swstg m ρ c) ∗ wholePt c cc0_stg3_0 (outAt m ρ c) -∗ Q ⟨⟩) -∗ WP c prog Q) := by
  unfold prog Φ₀ start ghost posRes payToks credRes ownZ scratch
  iintro ⟨⟨⟨⟨%K, #HR, ⟨HaB, HaS, HaV⟩, ⟨HtB, HtS, HtV⟩, ⟨HzW, HzS0, HzV0⟩⟩, ⟨HcB, HcV⟩, #Hlev, Hw⟩,
    ⟨Hxs, ⟨%fc, Hcm⟩, Hxt, Hwb, Hwf⟩⟩, HO, Hx, Hsx, Hsw, Ho⟩ Hk
  simp only [wp_deviceId]
  ihave Hcm := (cm_blocks c fc) $$ Hcm
  icases Hcm with ⟨Hc0, Hcm⟩
  iapply (signals m ρ K c _ Q) $$ [HO HtB Hcm]
  · isplitr; · iexact HR
    isplitl [HO]; · iexact HO
    isplitl [HtB] <;> iassumption
  iintro HO
  iapply (bar_one m ρ K c _ Q) $$ [HO HaB HcB]
  · isplitr; · iexact HR
    isplitr; · iexact Hlev
    isplitl [HO]; · iexact HO
    isplitl [HaB] <;> iassumption
  iintro ⟨HO, Hpeers, HzB⟩
  iapply (convert_one m ρ c _ Q) $$ [Hx Hxs]
  · isplitl [Hx] <;> iassumption
  iintro ⟨Hx, Hxs⟩
  ihave Hxs := (Entails.of_eq (xs_blocks c (X8 m ρ c))) $$ Hxs
  icases Hxs with ⟨Hown, Hxs⟩
  iapply (copies m ρ K c _ Q) $$ [HO HtS HtV Hxs Hpeers]
  · isplitr; · iexact HR
    isplitl [HO]; · iexact HO
    isplitl [HtS]; · iexact HtS
    isplitl [HtV]; · iexact HtV
    isplitl [Hxs] <;> iassumption
  iintro ⟨HO, Hout⟩
  ihave Hslots := (slots_free c) $$ [HzW Hwb]
  · isplitl [HzW] <;> iassumption
  iapply (issue_all m c _ Q) $$ [Hw Hslots]
  · isplitl [Hw] <;> iassumption
  iintro HF
  iapply (fetches m c _ Q) $$ [HO HF Hwf]
  · isplitl [HO]; · iexact HO
    isplitl [HF]; · iexact HF
    unfold wfPt; iexact Hwf
  iintro ⟨HO, ⟨Hw, Hslots⟩, Hwf⟩
  iapply (own_one m ρ c _ Q) $$ [Hown Hxt]
  · isplitl [Hown]; · iexact Hown
    unfold xtPt; iexact Hxt
  iintro ⟨Hown, Hxt⟩
  iapply (receives m ρ K c _ Q) $$ [HO HaV HcV Hxt]
  · isplitr; · iexact HR
    isplitl [HO]; · iexact HO
    isplitl [HaV]; · iexact HaV
    isplitl [HcV] <;> iassumption
  iintro ⟨HO, HzV, Hcm, Hxt⟩
  iapply (multiply_one m ρ c _ Q) $$ [Hxt Hwf Hsx Hsw Ho]
  · isplitl [Hxt]; · iexact Hxt
    isplitl [Hwf]; · iexact Hwf
    isplitl [Hsx]; · iexact Hsx
    isplitl [Hsw] <;> iassumption
  iintro ⟨Hxt, Hwf, Hsx, Hsw, Ho⟩
  iapply (sends m ρ K c _ Q) $$ [HO HaS Hout]
  · isplitr; · iexact HR
    isplitl [HO]; · iexact HO
    isplitl [HaS] <;> iassumption
  iintro ⟨HO, HzS, Hxs⟩
  ihave Hslots := (slots_back c) $$ Hslots
  icases Hslots with ⟨HzW, Hwb⟩
  ihave Hcm := (cm_join c) $$ [Hc0 Hcm]
  · isplitl [Hc0] <;> iassumption
  ihave Hxs := (Entails.of_eq (xs_blocks c (X8 m ρ c)).symm) $$ [Hown Hxs]
  · isplitl [Hown] <;> iassumption
  iapply (wp_done c Q)
  iapply Hk
  unfold Φ₁ ownZ scratch xtPt wfPt
  isplitl [Hw HzB HzS HzV HzW HzS0 HzV0 Hxs Hcm Hxt Hwb Hwf]
  · isplitl [Hw]; · iexact Hw
    isplitl [HzB]; · iexact HzB
    isplitl [HzS]; · iexact HzS
    isplitl [HzV]; · iexact HzV
    isplitl [HzW HzS0 HzV0]
    · isplitl [HzW]; · iexact HzW
      isplitl [HzS0] <;> iassumption
    isplitl [Hxs]; · iexists _; iexact Hxs
    isplitl [Hcm]; · iexact Hcm
    isplitl [Hxt]; · iexists _; iexact Hxt
    isplitl [Hwb]; · iexact Hwb
    iexists _; iexact Hwf
  isplitl [HO]; · iexact HO
  isplitl [Hx]; · iexact Hx
  isplitl [Hsx]; · iexact Hsx
  isplitl [Hsw] <;> iassumption

end State

/-! ## The pipeline's data, and the body's obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ ∗ stg c cc0_stg0_0 (xstg m ρ c) ∗ stg c cc0_stg1_0 (sxstg m ρ c)
    ∗ stg c cc0_stg2_0 (swstg m ρ c) ∗ stg c cc0_stg3_0 (outAt m ρ c))

theorem before_0 (c : Dev nD) (d) : (dats m ρ 0 c).before (0 : Fin 4) t0_0 d = xstg m ρ c := by
  unfold Dat.before; rw [if_pos (show (cfg0.win (0 : Fin 4)).fetch t0_0 = true from rfl)]; rfl
theorem before_1 (c : Dev nD) (d) : (dats m ρ 0 c).before (1 : Fin 4) t0_0 d = sxstg m ρ c := by
  unfold Dat.before; rw [if_pos (show (cfg0.win (1 : Fin 4)).fetch t0_0 = true from rfl)]; rfl
theorem before_2 (c : Dev nD) (d) : (dats m ρ 0 c).before (2 : Fin 4) t0_0 d = swstg m ρ c := by
  unfold Dat.before; rw [if_pos (show (cfg0.win (2 : Fin 4)).fetch t0_0 = true from rfl)]; rfl

theorem sound_body (c : Dev nD) : bodyPre m ρ c ⊢ WP c prog (fun _ => bodyPost m ρ c) := by
  unfold bodyPre
  simp only [before_0, before_1, before_2]
  unfold Dat.owesAt Pipeline.owesWithin
  rw [show (dats m ρ 0 c).owed t0_0.castSucc = O₀ c from rfl]
  iintro ⟨HΦ, ⟨%W, %hW, HO⟩, ⟨%d0, %g0, %hg0, H0⟩, ⟨%d1, %g1, %hg1, H1⟩, ⟨%d2, %g2, %hg2, H2⟩, ⟨%d3, %g3, %hg3, H3⟩⟩
  subst hg0 hg1 hg2
  iapply (run_body m ρ c (fun _ => bodyPost m ρ c)) $$ [HΦ HO H0 H1 H2 H3]
  · isplitl [HΦ]; · iexact HΦ
    isplitl [HO]; · iexists W; iexact HO
    isplitl [H0]; · iexact H0
    isplitl [H1]; · iexact H1
    isplitl [H2]; · iexact H2
    iexists g3; iexact H3
  iintro ⟨HΦ, ⟨%W', HO⟩, H0, H1, H2, H3⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 40000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) (Memref.whole cc0_stg0_0) (Memref.isWhole_whole _) (Memref.whole main_arg1) (Memref.isWhole_whole _)
      (Memref.whole cc0_stg1_0) (Memref.isWhole_whole _) (Memref.whole cc0_stg2_0) (Memref.isWhole_whole _)
      (Memref.whole cc0_stg3_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7) (fun _ => bodyPost m ρ c)
  rw [body_eq_prog]
  exact sound_body m ρ c

end Cert.KernelIdealProof
-- ==== Proof.KernelIdealLaunch.lean ====
/-
# 01_k — the launch

The tokens and credits a device starts with are dealt out, and every device's run is put together.
-/
module

public import proofs.«01_k».proof.Proof.KernelIdealBody
public import Idealize.ShloMosaic.Lib.Pipeline.CollectiveSegs
public import Idealize.ShloMosaic.Lib.Pipeline.Value

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a device -/

/-- The kernel's own semaphores: the exchange's 30, the four of the weight's slots, and the two no copy uses. -/
abbrev KI : Type := (Bool × Fin 15) ⊕ (Fin 4 ⊕ Bool)
abbrev osem : KI → SemLoc sig
  | .inl br => csem (some br)
  | .inr (.inl j) => .dma (wS j)
  | .inr (.inr false) => .dma (sendS 0)
  | .inr (.inr true) => .dma (recvS 0)

theorem ownSemFacts : Pipeline.OwnSemFacts cfg0.spec osem := by decide +kernel

theorem share_eq (c : Dev nD) (w : Fin cfg0.W) : (dats m ρ 0 c).share w = fullShare := by unfold Dat.share; split <;> rfl

omit [FloatOps F] in
theorem family_bool (Φ : Bool → sProp 𝕄) : bigSep Finset.univ Φ = iprop(Φ false ∗ Φ true) :=
  bigSep_univ_eq_bigSepL [false, true] (by decide) (by decide) Φ
omit [FloatOps F] in
theorem family_opt (Φ : Option Bool → sProp 𝕄) : bigSep Finset.univ Φ = iprop(Φ none ∗ Φ (some false) ∗ Φ (some true)) :=
  bigSep_univ_eq_bigSepL [none, some false, some true] (by decide) (by decide) Φ
omit [FloatOps F] in
theorem family_ex (Φ : Bool × Fin 15 → sProp 𝕄) :
    bigSep Finset.univ Φ = iprop((bigSep Finset.univ fun r => Φ (false, r)) ∗ bigSep Finset.univ fun r => Φ (true, r)) := by
  rw [bigSep_univ_prod, family_bool]
omit [FloatOps F] in
theorem family_cells (Φ : CI → sProp 𝕄) :
    bigSep Finset.univ Φ = iprop(Φ none ∗ (bigSep Finset.univ fun r => Φ (some (false, r))) ∗ bigSep Finset.univ fun r => Φ (some (true, r))) := by
  rw [bigSep_univ_at Φ none, show (Finset.univ : Finset CI).erase none = Finset.univ.map ⟨some, Option.some_injective _⟩ from by decide,
    bigSep_map]
  exact congrArg (fun X => iprop(Φ none ∗ X)) (family_ex fun br => Φ (some br))

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun r : Fin 15 => semVal (sendCell c r) 0) ∗ bigSep Finset.univ fun r : Fin 15 => semVal (recvCell c r) 0) ∗ ownZ c) := by
  unfold Pipeline.ownSems0 ownZ
  rw [bigSep_univ_sum, family_ex, bigSep_univ_sum, family_bool]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The launch element -/

def ringCells : Finset (GSem nD τ sig) := Finset.univ.map ⟨kcell, kcell_injective⟩

/-- A device's own cells' duty tokens: 15 of its barrier, one of each send and receive semaphore. -/
abbrev TI : Type := Option Bool × Fin 15
abbrev tokOf (ct : Dev nD × TI) : GSem nD τ sig × ℕ × Fin 15 := match ct.2 with
  | (none, d) => (barCell ct.1, 0, d)
  | (some b, r) => (kcell (ct.1, some (b, r)), 0, 0)
theorem tokOf_injective : Function.Injective tokOf := by
  rintro ⟨c, _ | b, r⟩ ⟨c', _ | b', r'⟩ h
  · have h1 : barCell c = barCell c' := congrArg Prod.fst h
    have h2 : r = r' := congrArg (fun x : GSem nD τ sig × ℕ × Fin 15 => x.2.2) h
    have h3 := kcell_injective (a₁ := (c, none)) (a₂ := (c', none)) h1
    rw [(Prod.mk.inj h3).1, h2]
  · have h1 : barCell c = kcell (c', some (b', r')) := congrArg Prod.fst h
    have h3 := kcell_injective (a₁ := (c, none)) (a₂ := (c', some (b', r'))) h1
    exact absurd (Prod.mk.inj h3).2 (by simp)
  · have h1 : kcell (c, some (b, r)) = barCell c' := congrArg Prod.fst h
    have h3 := kcell_injective (a₁ := (c, some (b, r))) (a₂ := (c', none)) h1
    exact absurd (Prod.mk.inj h3).2 (by simp)
  · have h1 : kcell (c, some (b, r)) = kcell (c', some (b', r')) := congrArg Prod.fst h
    have h3 := Prod.mk.inj (kcell_injective h1)
    have h4 := Prod.mk.inj (Option.some.inj h3.2)
    rw [h3.1, h4.1, h4.2]
def ringToks : Finset (GSem nD τ sig × ℕ × Fin 15) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun d : Fin 15 => dutyTok ER (barCell c) 0 d)
    ∗ (bigSep Finset.univ fun r : Fin 15 => dutyTok ER (sendCell c r) 0 0)
    ∗ bigSep Finset.univ fun r : Fin 15 => dutyTok ER (recvCell c r) 0 0)

/-- What the launch deals device `c`; -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)
/-- and what is made of it. -/
def G' (c : Dev nD) : sProp 𝕄 := iprop(∃ K, ghost m ρ K c)

omit [FloatOps F] in
theorem over_cells (Φ : GSem nD τ sig → sProp 𝕄) :
    bigSep ringCells Φ = bigSep Finset.univ fun c : Dev nD => bigSep Finset.univ fun k : CI => Φ (kcell (c, k)) := by
  unfold ringCells; rw [bigSep_map, bigSep_univ_prod]; rfl
omit [FloatOps F] in
theorem over_toks : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_univ_prod, family_opt]; rfl

theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst' := (Entails.of_eq (over_cells fun g => roundState ER (ringRd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The invariants opened, the tokens dealt around -/

theorem invs_alloc (c : Dev nD) :
    iprop((bigSep Finset.univ fun k : CI => semVal (kcell (c, k)) 0) ∗ bigSep Finset.univ fun k : CI => roundState ER (ringRd m ρ) (kcell (c, k)) 0)
      ⊢ (|={Set.univ}=> bigSep Finset.univ fun k : CI => iprop(∃ κ : ℕ, cellInv ER (ringRd m ρ) κ (kcell (c, k))) : sProp 𝕄) := by
  rw [← bigSep_sep']
  exact (bigSep_mono fun k _ => (Rounds.body_intro ER (ringRd m ρ) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c ∗ ownZ c) := by
  unfold G
  rw [ownSems0_eq, unscopedSems0_eq]
  iintro ⟨⟨⟨HzS, HzV⟩, HzO⟩, HzB, Hst, Hat, Htok⟩
  imod (invs_alloc m ρ c) $$ [HzS HzV HzB Hst] with Hinv
  · isplitr [Hst]
    · rw [family_cells]
      isplitl [HzB]; · iexact HzB
      isplitl [HzS] <;> iassumption
    iexact Hst
  imodintro
  isplitl [Hinv]; · iexact Hinv
  isplitl [Hat]; · iexact Hat
  isplitl [Htok] <;> iassumption

/-- A barrier's token `d` goes to the device that pays it; -/
def barTo : Dev nD × Fin 15 ≃ Dev nD × Fin 15 where
  toFun x := (peer x.1 x.2, x.2.rev)
  invFun x := (peer x.1 x.2, x.2.rev)
  left_inv := by rintro ⟨c, r⟩; simp only [peer_rev, Fin.rev_rev]
  right_inv := by rintro ⟨c, r⟩; simp only [peer_rev, Fin.rev_rev]
/-- a receive semaphore's to the device that copies to it. -/
def recvTo : Dev nD × Fin 15 ≃ Dev nD × Fin 15 where
  toFun x := (peer x.1 x.2, x.2)
  invFun x := (peer x.1 x.2.rev, x.2)
  left_inv := by rintro ⟨c, r⟩; simp only [peer_rev]
  right_inv := by rintro ⟨c, r⟩; have := peer_rev c r.rev; rw [Fin.rev_rev] at this; simp only [this]

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep']
  have hB : (bigSep Finset.univ fun c : Dev nD => bigSep Finset.univ fun d : Fin 15 => (dutyTok ER (barCell c) 0 d : sProp 𝕄))
      = bigSep Finset.univ fun c : Dev nD => bigSep Finset.univ fun r : Fin 15 => dutyTok ER (barCell (peer c r)) 0 r.rev := by
    rw [← bigSep_univ_prod (fun x : Dev nD × Fin 15 => (dutyTok ER (barCell x.1) 0 x.2 : sProp 𝕄)), bigSep_univ_equiv barTo, bigSep_univ_prod]
    rfl
  have hV : (bigSep Finset.univ fun c : Dev nD => bigSep Finset.univ fun r : Fin 15 => (dutyTok ER (recvCell c r) 0 0 : sProp 𝕄))
      = bigSep Finset.univ fun c : Dev nD => bigSep Finset.univ fun r : Fin 15 => dutyTok ER (recvCell (peer c r) r) 0 0 := by
    rw [← bigSep_univ_prod (fun x : Dev nD × Fin 15 => (dutyTok ER (recvCell x.1 x.2) 0 0 : sProp 𝕄)), bigSep_univ_equiv recvTo, bigSep_univ_prod]
    rfl
  rw [hB, hV]

omit [FloatOps F] in
/-- A persistent fact is at hand for every member of a family. -/
theorem family_with {I : Type} [DecidableEq I] (S : Finset I) (R : sProp 𝕄) [BI.Persistent R] (Φ Ψ : I → sProp 𝕄)
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

def linear (c : Dev nD) : sProp 𝕄 :=
  iprop((bigSep Finset.univ fun k : CI => atPos ER (kcell (c, k)) 0 ∅ 0) ∗ payToks c ∗ ownZ c)

theorem ghost_intro (K : Dev nD × CI → ℕ) (c : Dev nD) : iprop(recs m ρ K ∗ linear c) ⊢ G' m ρ c := by
  unfold linear G' ghost posRes
  rw [family_cells]
  iintro ⟨HR, Hat, Ht, Hz⟩
  iexists K
  isplitl [HR]; · iexact HR
  isplitl [Hat]; · iexact Hat
  isplitl [Ht] <;> iassumption

theorem regroup :
    (bigSep Finset.univ fun c : Dev nD => iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c ∗ ownZ c) : sProp 𝕄)
      ⊢ bigSep Finset.univ (G' m ρ) := by
  rw [bigSep_sep', bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htok, Hz⟩
  ihave HK := (BI.bigSep_exists_pi Finset.univ (fun (ck : Dev nD × CI) (κ : ℕ) => (cellInv ER (ringRd m ρ) κ (kcell ck) : sProp 𝕄))) $$ HI
  icases HK with ⟨%K, #HI⟩
  iapply (family_with Finset.univ (recs m ρ K) linear (G' m ρ) fun c => ghost_intro m ρ K c)
  unfold recs linear
  rw [bigSep_sep', bigSep_sep']
  isplitr
  · isplitl; · iexact HI
    iexact HR
  isplitl [Hat]; · iexact Hat
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem sum_apply {ι : Type} (S : Finset ι) (f : ι → CellTallies nD τ sig Unit) (g : GSem nD τ sig) (u : Unit) :
    (∑ x ∈ S, f x) g u = ∑ x ∈ S, f x g u := by
  rw [Finset.sum_apply, Finsupp.finset_sum_apply]

theorem bar_ne_recv (c d : Dev nD) (r : Fin 15) : barCell c ≠ recvCell d r := fun h => by
  have := kcell_injective (a₁ := (c, none)) (a₂ := (d, some (true, r))) h
  exact absurd (Prod.mk.inj this).2 (by simp)
theorem bar_inj {c d : Dev nD} (h : barCell c = barCell d) : c = d :=
  (Prod.mk.inj (kcell_injective (a₁ := (c, none)) (a₂ := (d, none)) h)).1
theorem recv_inj {c d : Dev nD} {r q : Fin 15} (h : recvCell c r = recvCell d q) : c = d ∧ r = q := by
  have h3 := Prod.mk.inj (kcell_injective (a₁ := (c, some (true, r))) (a₂ := (d, some (true, q))) h)
  exact ⟨h3.1, (Prod.mk.inj (Option.some.inj h3.2)).2⟩

theorem owed_bar (d c : Dev nD) : O₀ d (barCell c) () = ∑ r : Fin 15, if c = peer d r then 1 else 0 := by
  have h1 : OR d 0 (barCell c) () = 0 := Nat.eq_zero_of_not_pos fun h => by
    obtain ⟨r, hr⟩ := OR_pos h; exact bar_ne_recv _ _ _ hr
  unfold O₀
  rw [Pi.add_apply, Finsupp.add_apply, h1, zero_add]
  unfold OB
  rw [sum_apply]
  refine Finset.sum_congr rfl fun r _ => ?_
  rw [if_pos (Nat.zero_le _), tallyAt_apply]
  by_cases h : c = peer d r
  · subst h; rw [if_pos ⟨rfl, rfl⟩, if_pos rfl]
  · rw [if_neg (fun h' => h (bar_inj h'.1)), if_neg h]

theorem owed_recv (d c : Dev nD) (q : Fin 15) : O₀ d (recvCell c q) () = if c = peer d q then N else 0 := by
  have h1 : OB d 0 (recvCell c q) () = 0 := Nat.eq_zero_of_not_pos fun h => by
    obtain ⟨r, hr⟩ := OB_pos h; exact bar_ne_recv _ _ _ hr.symm
  unfold O₀
  rw [Pi.add_apply, Finsupp.add_apply, h1, add_zero]
  unfold OR
  rw [sum_apply, Finset.sum_eq_single q]
  · rw [if_pos (Nat.zero_le _), tallyAt_apply]
    by_cases h : c = peer d q
    · subst h; rw [if_pos ⟨rfl, rfl⟩, if_pos rfl]
    · rw [if_neg (fun h' => h (recv_inj h'.1).1), if_neg h]
  · intro r _ hr
    rw [if_pos (Nat.zero_le _), tallyAt_apply, if_neg (fun h' => hr (recv_inj h'.1).2.symm)]
  · intro h; exact absurd (Finset.mem_univ _) h

theorem pays_bar (c : Dev nD) : (∑ d : Dev nD, ∑ r : Fin 15, if c = peer d r then 1 else 0) = 15 := by
  revert c; decide +kernel
theorem peer_from (c d : Dev nD) (q : Fin 15) : c = peer d q ↔ d = peer c q.rev := by
  constructor
  · rintro rfl; exact (peer_rev d q).symm
  · rintro rfl; have := peer_rev c q.rev; rw [Fin.rev_rev] at this; exact this.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, pays_bar]

theorem launch_recv (c : Dev nD) (q : Fin 15) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q,
    Finset.sum_congr rfl fun d _ => if_congr (peer_from c d q) rfl rfl, Finset.sum_ite_eq' Finset.univ (peer c q.rev) fun _ => N,
    if_pos (Finset.mem_univ _)]

omit [FloatOps F] in
/-- A family holds the part of it that an injection picks out. -/
theorem family_part {I J : Type} [DecidableEq I] [DecidableEq J] [Fintype J] (S : Finset I) (e : J ↪ I) (h : ∀ j, e j ∈ S) (Φ : I → sProp 𝕄) :
    bigSep S Φ ⊢ bigSep Finset.univ fun j => Φ (e j) := by
  rw [← bigSep_map e, ← Finset.sdiff_union_of_subset (show Finset.univ.map e ⊆ S from fun i hi => by
    obtain ⟨j, -, rfl⟩ := Finset.mem_map.mp hi; exact h j)]
  refine (Entails.of_eq (bigSep_union Finset.sdiff_disjoint)).trans ?_
  exact sep_elim_right

theorem recvSem_injective : Function.Injective fun r : Fin 15 => (SemLoc.dma (recvS r.succ) : SemLoc sig) := fun r q h =>
  (recv_inj (c := 0) (d := 0) (congrArg (fun s => (((0 : Dev nD) : Thread nD τ), s)) h)).2

omit [FloatOps F] in
theorem creds (c : Dev nD) : (Pipeline.launchCred O₀ c : sProp 𝕄) ⊢ credRes c := by
  unfold Pipeline.launchCred credRes
  rw [bigSep_univ_at _ (SemLoc.reg barS), launch_bar]
  refine sep_mono_right ?_
  refine (family_part _ ⟨_, recvSem_injective⟩ (fun r => Finset.mem_erase.mpr ⟨fun h => absurd (show SemLoc.dma (recvS r.succ) = SemLoc.reg barS from h) (by simp), Finset.mem_univ _⟩) _).trans ?_
  exact Entails.of_eq (bigSep_congr fun r _ => congrArg cred (launch_recv c r))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show cfg0.spec = spec0 from rfl, unscopedRest0_eq]
  iintro ⟨Hw, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀ scratch
  iintro ⟨Hs, -, Hr⟩
  isplitl [Hs]; · iexact Hs
  iexact Hr

/-- What a device still holds of its unscoped memory after the run. -/
def kept (c : Dev nD) : sProp 𝕄 := iprop(unscopedSems0 c ∗ wholePt c main_arg1 (wOf m c))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, show cfg0.spec = spec0 from rfl, scopedRest0_eq, ownSems0_eq]
  unfold Φ₁ kept scratch
  rw [unscopedSems0_eq]
  iintro ⟨Hw, HzB, HzS, HzV, HzO, Hr⟩
  isplitl [Hw HzB]
  · isplitl [HzB] <;> iassumption
  isplitl [HzS HzV HzO]
  · isplitl [HzS HzV]
    · isplitl [HzS] <;> iassumption
    iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What each window's array on device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem kept_read (c : Dev nD) (s' : Phys nD τ sig (Elt F)) :
    iprop(kept m c ∗ emp ∗ SI s') ⊢ |={Set.univ}=> (iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  unfold kept
  iintro ⟨⟨Hu, Hw⟩, -, HSI⟩
  ihave %h := (SI_pointsTo_agree) $$ [HSI Hw]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => h i (Finset.mem_univ i)⟩
  iexact HSI

set_option maxRecDepth 8000 in
/-- From any memory with zero counters, for any float values: every weakly fair execution of the sixteen kernels ends, and
    ends with the computed result on every device, the weight unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m ρ) $$ HX with HG
      imodintro
      isplitl [HP] <;> iassumption)
    (hglob := glob m ρ)
    (hA := fun _ _ => rfl) (hpf := fun _ k => k.elim0)
    (X := start m ρ) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := kept_read m)
    (hQ := fun _ h hs => ⟨fun c => ⟨(h c).1, (h c).2.2.2⟩, sem_eq_zero hs fun c => (h c).2.2.1⟩)

/-! ## The arrays after the run -/

theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The result window is one block, the whole array. -/
theorem finalA_out (c : Dev nD) : finalA m ρ c (3 : Fin 4) = outAt m ρ c := by
  refine (dats (F := F) m ρ 0 c).arrAt_eq_of_cover (3 : Fin 4) (outAt m ρ c) (fun t _ => ?_) (fun i => ⟨t0_0, rfl, ?_⟩)
  · rw [fin_N0 t]
    funext i
    have he : (win0_3.blk (0 : Fin 1)).view.emb i = i := by
      funext a; refine Fin.ext ?_
      fin_cases a
      · show 0 * 256 + 1 * (i 0).val = (i 0).val; omega
      · show 0 * 2048 + 1 * (i 1).val = (i 1).val; omega
    show outAt m ρ c i = outAt m ρ c ((win0_3.blk (0 : Fin 1)).view.emb i)
    rw [he]
  · have he : (win0_3.blk (0 : Fin 1)).view.emb i = i := by
      funext a; refine Fin.ext ?_
      fin_cases a
      · show 0 * 256 + 1 * (i 0).val = (i 0).val; omega
      · show 0 * 2048 + 1 * (i 1).val = (i 1).val; omega
    have := (win0_3.blk (0 : Fin 1)).view.emb_mem_set i
    rw [he] at this
    exact this

/-- What the final states hold, array by array: the result, and the four arguments as they were. -/
theorem QC_arrays {r : Unit × MemSt nD τ sig (Elt F)} (h : QC m ρ r) (c : Dev nD) :
    r.2.mem ((c : Thread nD τ).loc main_v1) = outAt m ρ c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 (3 : Fin 4)).trans (finalA_out m ρ c), ((h c).1 (0 : Fin 4)).trans (finalA_in m ρ c (0 : Fin 4) rfl), (h c).2,
    ((h c).1 (1 : Fin 4)).trans (finalA_in m ρ c (1 : Fin 4) rfl), ((h c).1 (2 : Fin 4)).trans (finalA_in m ρ c (2 : Fin 4) rfl)⟩

end Cert.KernelIdealProof

end
-- ==== Proof.Value.lean ====
/-
# 01_k — the value

The reference multiplies the whole matrices; device `c` adds the same products block by block, starting from its own
block of the contracted axis and going downwards round the ring. Here the kernel's result, read at an index, is shown
to be the reference's result at the row `256 c` further down.
-/
module

public import proofs.«01_k».proof.Proof.KernelIdealLaunch
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Layout

@[expose] public section

noncomputable section

namespace Cert.KernelIdealProof

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## The order in which device `c` meets the contracted axis -/

/-- The place in the contracted axis that device `c` meets at place `k`. -/
def meets (c : Fin 16) (k : Fin 4096) : Fin 4096 :=
  ⟨(c - (⟨k.val / 256, by omega⟩ : Fin 16)).val * 256 + k.val % 256, by
    have := (c - (⟨k.val / 256, by omega⟩ : Fin 16)).isLt
    omega⟩

theorem meets_div (c : Fin 16) (k : Fin 4096) :
    (⟨(meets c k).val / 256, by omega⟩ : Fin 16) = c - (⟨k.val / 256, by omega⟩ : Fin 16) := by
  refine Fin.ext ?_
  show ((c - (⟨k.val / 256, by omega⟩ : Fin 16)).val * 256 + k.val % 256) / 256 = _
  omega

theorem meets_mod (c : Fin 16) (k : Fin 4096) : (meets c k).val % 256 = k.val % 256 := by
  show ((c - (⟨k.val / 256, by omega⟩ : Fin 16)).val * 256 + k.val % 256) % 256 = _
  omega

/-- Meeting twice comes back: every place is met exactly once. -/
theorem meets_involutive (c : Fin 16) : Function.Involutive (meets c) := by
  intro k
  refine Fin.ext ?_
  show (c - (⟨(meets c k).val / 256, by omega⟩ : Fin 16)).val * 256 + (meets c k).val % 256 = k.val
  rw [meets_div, meets_mod, sub_sub_cancel]
  show k.val / 256 * 256 + k.val % 256 = k.val
  omega

/-- A sum in the order device `c` meets the places is the sum. -/
theorem sum_meets (c : Fin 16) (f : Fin 4096 → EReal) : ∑ k, f (meets c k) = ∑ k, f k :=
  Equiv.sum_comp (meets_involutive c).toPerm f

/-! ## The contents, entry by entry -/

/-- A device's staged input is its argument; -/
theorem xstg_eq (c : Dev nD) : xstg m ρ c = m ((c : Thread nD τ).loc main_arg0) := by
  funext i
  have he : (win0_0.blk (0 : Fin 1)).view.emb i = i := by
    funext a; refine Fin.ext ?_
    fin_cases a
    · show 0 * 4096 + 1 * (i 0).val = (i 0).val; omega
    · show 0 * 256 + 1 * (i 1).val = (i 1).val; omega
  show m ((c : Thread nD τ).loc main_arg0) ((win0_0.blk (0 : Fin 1)).view.emb i) = _
  rw [he]
/-- so are its staged scales. -/
theorem sxstg_eq (c : Dev nD) : sxstg m ρ c = m ((c : Thread nD τ).loc main_arg2) := by
  funext i
  have he : (win0_1.blk (0 : Fin 1)).view.emb i = i := by
    funext a; refine Fin.ext ?_
    fin_cases a
    show 0 * 1 + 1 * (i 0).val = (i 0).val; omega
  show m ((c : Thread nD τ).loc main_arg2) ((win0_1.blk (0 : Fin 1)).view.emb i) = _
  rw [he]
theorem swstg_eq (c : Dev nD) : swstg m ρ c = m ((c : Thread nD τ).loc main_arg3) := by
  funext i
  have he : (win0_2.blk (0 : Fin 1)).view.emb i = i := by
    funext a; refine Fin.ext ?_
    fin_cases a
    show 0 * 1 + 1 * (i 0).val = (i 0).val; omega
  show m ((c : Thread nD τ).loc main_arg3) ((win0_2.blk (0 : Fin 1)).view.emb i) = _
  rw [he]

/-- The converted input is the input: at the exact values a change of format changes nothing. -/
theorem X8_eq (c : Dev nD) (i : S4096x256.Idx) : X8 m ρ c i = m ((c : Thread nD τ).loc main_arg0) i := by
  show k0_pay1 (xstg m ρ c) i = _
  rw [xstg_eq]
  unfold k0_pay1
  show shapeCast S4096x256 (truncf .fp8e4m3 (shapeCast S4096x256 (m ((c : Thread nD τ).loc main_arg0) : FVec Ideal S4096x256 .f32) _) _ : FVec Ideal S4096x256 .fp8e4m3) _ i = _
  rw [shapeCast_self]
  exact congrFun (shapeCast_self (m ((c : Thread nD τ).loc main_arg0) : FVec Ideal S4096x256 .f32) _) i

/-- An entry of the gathered input, in the whole input `x` of which every device holds its block of columns. -/
theorem XT_entry (x : FVec Ideal ⟨2, ![4096, 4096]⟩ .f32)
    (hx : ∀ d : Dev nD, m ((d : Thread nD τ).loc main_arg0) = Layout.block ⟨2, ![4096, 256]⟩ ⟨2, ![4096, 4096]⟩ 1 16 d x)
    (c : Dev nD) (r : Fin 256) (k : Fin 4096) :
    XT m ρ c (ix2 r k) = x (ix2 ⟨c.val * 256 + r.val, by have := c.isLt; have : c.val < 16 := this; omega⟩ (meets c k)) := by
  unfold XT
  rw [shapeCast_self]
  show X8 m ρ (c - xtCol (ix2 r k)) ((xsB c).emb (xtPos (ix2 r k))) = _
  rw [X8_eq, hx]
  show x _ = x _
  refine congrArg x ?_
  funext a
  refine Fin.ext ?_
  fin_cases a
  · show 256 * c.val + 1 * r.val = c.val * 256 + r.val; omega
  · show (c - xtCol (ix2 r k)).val * 256 + (0 + 1 * (k.val % 256)) = (c - xtCol (ix2 r k)).val * 256 + k.val % 256; omega

/-- An entry of the gathered weight, in the weight `w` that every device holds whole. -/
theorem WF_entry (w : FVec Ideal ⟨2, ![4096, 2048]⟩ .f32) (c : Dev nD) (hw : m ((c : Thread nD τ).loc main_arg1) = w)
    (k : Fin 4096) (l : Fin 2048) :
    WF m c (ix2 k l) = w (ix2 (meets c k) l) := by
  unfold WF blkW
  rw [shapeCast_self]
  show wOf m c ((wfR (c - wfRow (ix2 k l))).emb (wfPos (ix2 k l))) = _
  show m ((c : Thread nD τ).loc main_arg1) _ = _
  rw [hw]
  refine congrArg w ?_
  funext a
  refine Fin.ext ?_
  fin_cases a
  · show 256 * (c - wfRow (ix2 k l)).val + 1 * (k.val % 256) = (c - wfRow (ix2 k l)).val * 256 + k.val % 256; omega
  · show 0 + 1 * l.val = l.val; omega

/-! ## The two results -/

/-- The reference's result, of the whole input, the weight and the two scales. -/
abbrev refOut (x : FVec Ideal ⟨2, ![4096, 4096]⟩ .f32) (w : FVec Ideal ⟨2, ![4096, 2048]⟩ .f32) (sx sw : FVec Ideal ⟨1, ![1]⟩ .f32) :
    FVec Ideal ⟨2, ![4096, 2048]⟩ .f32 :=
  maximumf (mulf (Host.dotGeneral Cert.ReferenceIdeal.dot_S4096x4096_S4096x2048_S4096x2048_1_0_0_1_n_n none x w)
      (broadcastInDim Cert.ReferenceIdeal.S4096x2048 ![0, 1] Cert.ReferenceIdeal.Gen.bcast_S1x1_S4096x2048_0_1
        (broadcastInDim Cert.ReferenceIdeal.S1x1 ![1] Cert.ReferenceIdeal.Gen.bcast_S1_S1x1_1 (mulf sx sw))))
    (broadcastInDim Cert.ReferenceIdeal.S4096x2048 ![] Cert.ReferenceIdeal.Gen.bcast_S_S4096x2048 (constant Cert.ReferenceIdeal.S_ .f32 0x00000000#32))

/-- A one-element array has one index. -/
theorem one_idx (i j : (⟨1, ![1]⟩ : Shape).Idx) : i = j := by
  funext a
  refine Fin.ext ?_
  have hi : (i a).val < 1 := by have := (i a).isLt; fin_cases a; exact this
  have hj : (j a).val < 1 := by have := (j a).isLt; fin_cases a; exact this
  omega

/-- An entry of the reference's result: the row times the column, scaled, and no less than zero. -/
theorem refOut_entry (x : FVec Ideal ⟨2, ![4096, 4096]⟩ .f32) (w : FVec Ideal ⟨2, ![4096, 2048]⟩ .f32) (sx sw : FVec Ideal ⟨1, ![1]⟩ .f32)
    (R : Fin 4096) (l : Fin 2048) :
    refOut x w sx sw (ix2 R l)
      = max ((∑ k : Fin 4096, x (ix2 R k) * w (ix2 k l)) * (sx ix1 * sw ix1)) (Ideal.ofBits .f32 0x00000000#32) := by
  have hd : Cert.ReferenceIdeal.dot_S4096x4096_S4096x2048_S4096x2048_1_0_0_1_n_n = DotDims.plain 4096 4096 2048 := rfl
  unfold refOut
  rw [hd, maximumf_apply, mulf_apply, Idealize.ShloMosaic.StackMember.dotGeneral_plain_apply]
  have hs : ∀ i, (mulf sx sw : FVec Ideal ⟨1, ![1]⟩ .f32) i = sx ix1 * sw ix1 := fun i => by rw [one_idx i ix1]; rfl
  exact congrArg (fun t => max ((∑ k : Fin 4096, x (ix2 R k) * w (ix2 k l)) * t) (Ideal.ofBits .f32 0x00000000#32)) (hs _)

/-- An entry of the kernel's result on device `c`. -/
theorem outAt_entry (x : FVec Ideal ⟨2, ![4096, 4096]⟩ .f32) (w : FVec Ideal ⟨2, ![4096, 2048]⟩ .f32) (sx sw : FVec Ideal ⟨1, ![1]⟩ .f32)
    (hx : ∀ d : Dev nD, m ((d : Thread nD τ).loc main_arg0) = Layout.block ⟨2, ![4096, 256]⟩ ⟨2, ![4096, 4096]⟩ 1 16 d x)
    (c : Dev nD) (hw : m ((c : Thread nD τ).loc main_arg1) = w)
    (hsx : m ((c : Thread nD τ).loc main_arg2) = sx) (hsw : m ((c : Thread nD τ).loc main_arg3) = sw)
    (r : Fin 256) (l : Fin 2048) (R : Fin 4096) (hR : R.val = c.val * 256 + r.val) :
    outAt m ρ c (ix2 r l)
      = max ((∑ k : Fin 4096, x (ix2 R k) * w (ix2 k l)) * (sx ix1 * sw ix1)) (Ideal.ofBits .f32 0x00000000#32) := by
  have hd : dot_S256x4096_S4096x2048_S256x2048_1_0_0_1_n_n = DotDims.plain 256 4096 2048 := rfl
  have hsum : FloatOps.matmul (F := Ideal) (φ₁ := .fp8e4m3) (φ₂ := .fp8e4m3) (DotDims.plain 256 4096 2048) none (XT m ρ c : FVec Ideal ⟨2, ![256, 4096]⟩ .fp8e4m3)
        (WF m c : FVec Ideal ⟨2, ![4096, 2048]⟩ .fp8e4m3) (constant ⟨2, ![256, 2048]⟩ .f32 0x00000000#32) (ix2 r l)
      = ∑ k : Fin 4096, x (ix2 R k) * w (ix2 k l) := by
    rw [Ideal.matmul_plain_apply, constant_apply, Ideal.ofBits_zero_f32, zero_add,
      ← sum_meets c (fun k => x (ix2 R k) * w (ix2 k l))]
    refine Finset.sum_congr rfl fun k _ => ?_
    rw [XT_entry m ρ x hx c r k, WF_entry m w c hw k l]
    congr 3
    exact Fin.ext hR.symm
  unfold outAt
  rw [sxstg_eq, swstg_eq, hsx, hsw]
  unfold k0_pay35
  rw [hd]
  show max (FloatOps.matmul (F := Ideal) (φ₁ := .fp8e4m3) (φ₂ := .fp8e4m3) (DotDims.plain 256 4096 2048) none (XT m ρ c : FVec Ideal ⟨2, ![256, 4096]⟩ .fp8e4m3)
        (WF m c : FVec Ideal ⟨2, ![4096, 2048]⟩ .fp8e4m3) (constant ⟨2, ![256, 2048]⟩ .f32 0x00000000#32) (ix2 r l) * (sx ix1 * sw ix1))
      (Ideal.ofBits .f32 0x00000000#32) = _
  rw [hsum]

/-- Device `c`'s result is its block of rows of the reference's result. -/
theorem outAt_eq (x : FVec Ideal ⟨2, ![4096, 4096]⟩ .f32) (w : FVec Ideal ⟨2, ![4096, 2048]⟩ .f32) (sx sw : FVec Ideal ⟨1, ![1]⟩ .f32)
    (hx : ∀ d : Dev nD, m ((d : Thread nD τ).loc main_arg0) = Layout.block ⟨2, ![4096, 256]⟩ ⟨2, ![4096, 4096]⟩ 1 16 d x)
    (c : Dev nD) (hw : m ((c : Thread nD τ).loc main_arg1) = w)
    (hsx : m ((c : Thread nD τ).loc main_arg2) = sx) (hsw : m ((c : Thread nD τ).loc main_arg3) = sw) :
    outAt m ρ c = Layout.block ⟨2, ![256, 2048]⟩ ⟨2, ![4096, 2048]⟩ 0 16 c (refOut x w sx sw) := by
  funext i
  obtain ⟨r, l, rfl⟩ : ∃ (r : Fin 256) (l : Fin 2048), i = ix2 r l := ⟨i 0, i 1, eq_ix2 i⟩
  have hc : c.val < 16 := c.isLt
  rw [outAt_entry m ρ x w sx sw hx c hw hsx hsw r l ⟨c.val * 256 + r.val, by omega⟩ rfl,
    ← refOut_entry x w sx sw ⟨c.val * 256 + r.val, by omega⟩ l, Layout.block_apply]
  refine congrArg (refOut x w sx sw) ?_
  funext a
  refine Fin.ext ?_
  fin_cases a <;> rfl

end Cert.KernelIdealProof

end
-- ==== Proof.lean ====
/-
# 01_k — the claims

A matrix product over sixteen devices. Each device holds a block of columns of the input and the whole weight, sends
every other device the rows that device is to produce, and multiplies what it has gathered by the weight in the order it
met the blocks. Proved here: the program and its exact form end, fault nowhere, leave their arguments as they were and every
semaphore at zero; so does the reference; and with exact values every device ends with its rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The program ends, its arguments unchanged and every semaphore at zero; -/
theorem frame_kernel : Cert.quiescent_Kernel := by
  intro m g _
  exact (θ_run Cert.Kernel.defs _ _).mono
    (fun _ h => ⟨fun c => (Cert.KernelProof.QC_arrays m g h.1 c).2, h.2⟩)
    (Cert.KernelProof.run_main (F := Bits) m g)

/-- so does its exact form, -/
theorem frame_kernelIdeal : Cert.quiescent_KernelIdeal := by
  intro m g _
  exact (θ_run Cert.KernelIdeal.defs _ _).mono
    (fun _ h => ⟨fun c => (Cert.KernelIdealProof.QC_arrays m g h.1 c).2, h.2⟩)
    (Cert.KernelIdealProof.run_main (F := Ideal) m g)

/-- and so does the reference, which has no semaphore. -/
theorem frame_reference : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- With exact values every device's result is its block of rows of the reference's. -/
theorem algebraic : Cert.algebraic_KernelIdeal_ReferenceIdeal := by
  intro m g m' g' _ hagree
  refine ⟨Cert.KernelIdealProof.refOut
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)), ?_, ?_⟩
  · refine (θ_run Cert.KernelIdeal.defs _ _).mono (fun _ h c => ?_) (Cert.KernelIdealProof.run_main (F := Ideal) m g)
    have ha := Cert.KernelIdealProof.QC_arrays m g h.1 c
    exact ⟨ha.1.trans (Cert.KernelIdealProof.outAt_eq m g _ _ _ _ (fun d => (hagree d).1) c (hagree c).2.1 (hagree c).2.2.1 (hagree c).2.2.2),
      ha.2⟩
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
